-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_at_most_60 [hPre_logits_at_most_60 : Cert.Pre_logits_at_most_60.Facts] (m : (ℓ : Loc Cert.KernelIdeal.nD Cert.KernelIdeal.τ Cert.KernelIdeal.sig) → Buf (Elt Ideal) ℓ) : Prop :=
  ∀ c : Dev Cert.KernelIdeal.nD,
    (Cert.Pre_logits_at_most_60.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_at_most_60 [hPre_logits_at_most_60 : Cert.Pre_logits_at_most_60.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_at_most_60.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_logits_at_most_60 [hKernelIdeal : Cert.KernelIdeal.Facts] [hPre_logits_at_most_60 : Cert.Pre_logits_at_most_60.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_at_most_60 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_logits_at_most_60 [hReferenceIdeal : Cert.ReferenceIdeal.Facts] [hPre_logits_at_most_60 : Cert.Pre_logits_at_most_60.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_at_most_60 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_logits_at_most_60 [hKernelIdeal : Cert.KernelIdeal.Facts] [hReferenceIdeal : Cert.ReferenceIdeal.Facts] [hPre_logits_at_most_60 : Cert.Pre_logits_at_most_60.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_at_most_60 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_logits_at_most_60 : Cert.Pre_logits_at_most_60.Facts),
    quiescent_Kernel (hKernel := hKernel)
    ∧ quiescent_KernelIdeal (hKernelIdeal := hKernelIdeal)
    ∧ quiescent_KernelIdeal_pre_logits_at_most_60 (hKernelIdeal := hKernelIdeal) (hPre_logits_at_most_60 := hPre_logits_at_most_60)
    ∧ quiescent_ReferenceIdeal (hReferenceIdeal := hReferenceIdeal)
    ∧ quiescent_ReferenceIdeal_pre_logits_at_most_60 (hReferenceIdeal := hReferenceIdeal) (hPre_logits_at_most_60 := hPre_logits_at_most_60)
    ∧ preserves_Kernel_KernelIdeal
    ∧ algebraic_KernelIdeal_ReferenceIdeal_pre_logits_at_most_60 (hKernelIdeal := hKernelIdeal) (hReferenceIdeal := hReferenceIdeal) (hPre_logits_at_most_60 := hPre_logits_at_most_60)
-- ==== Pre_logits_at_most_60.lean ====
abbrev S8x128x64x64 : Shape := ⟨4, ![8, 128, 64, 64]⟩
abbrev S64x128x1x1 : Shape := ⟨4, ![64, 128, 1, 1]⟩
abbrev S64 : Shape := ⟨1, ![64]⟩
abbrev S100x64x3x3 : Shape := ⟨4, ![100, 64, 3, 3]⟩
abbrev S100 : Shape := ⟨1, ![100]⟩
abbrev S64x128 : Shape := ⟨2, ![64, 128]⟩
abbrev S64x8x64x64 : Shape := ⟨4, ![64, 8, 64, 64]⟩
abbrev S8x64x64x64 : Shape := ⟨4, ![8, 64, 64, 64]⟩
abbrev S1x64x1x1 : Shape := ⟨4, ![1, 64, 1, 1]⟩
abbrev S_ : Shape := ⟨0, ![]⟩
abbrev S8x64x66x66 : Shape := ⟨4, ![8, 64, 66, 66]⟩
abbrev S100x64x1x1 : Shape := ⟨4, ![100, 64, 1, 1]⟩
abbrev S100x64 : Shape := ⟨2, ![100, 64]⟩
abbrev S100x8x64x64 : Shape := ⟨4, ![100, 8, 64, 64]⟩
abbrev S8x100x64x64 : Shape := ⟨4, ![8, 100, 64, 64]⟩
abbrev S1x100x1x1 : Shape := ⟨4, ![1, 100, 1, 1]⟩

class Facts : Prop where
  shapeCasts_S64x128x1x1_S64x128 : S64x128x1x1.ShapeCasts S64x128
  transposes_S64x8x64x64_S8x64x64x64_1_0_2_3 : S64x8x64x64.Transposes [1, 0, 2, 3] S8x64x64x64
  bcast_S64_S1x64x1x1_1 : S64.BroadcastsInDim S1x64x1x1 (![1] : Fin 1 → Fin S1x64x1x1.rank)
  bcast_S1x64x1x1_S8x64x64x64_0_1_2_3 : S1x64x1x1.BroadcastsInDim S8x64x64x64 (![0, 1, 2, 3] : Fin 4 → Fin S8x64x64x64.rank)
  pads_S8x64x64x64_S8x64x66x66_000_000_110_110 : S8x64x64x64.Pads (![0, 0, 1, 1] : Fin 4 → Nat) ![0, 0, 1, 1] ![0, 0, 0, 0] S8x64x66x66
  h_S_ : 0 < S_.numel
  slices_S8x64x66x66_S8x64x64x64_0_0_0_0 : S8x64x66x66.Slices ![0, 0, 0, 0] S8x64x64x64
  slices_S100x64x3x3_S100x64x1x1_0_0_0_0 : S100x64x3x3.Slices ![0, 0, 0, 0] S100x64x1x1
  shapeCasts_S100x64x1x1_S100x64 : S100x64x1x1.ShapeCasts S100x64
  transposes_S100x8x64x64_S8x100x64x64_1_0_2_3 : S100x8x64x64.Transposes [1, 0, 2, 3] S8x100x64x64
  bcast_S_S8x100x64x64 : S_.BroadcastsInDim S8x100x64x64 (![] : Fin 0 → Fin S8x100x64x64.rank)
  slices_S8x64x66x66_S8x64x64x64_0_0_0_1 : S8x64x66x66.Slices ![0, 0, 0, 1] S8x64x64x64
  slices_S100x64x3x3_S100x64x1x1_0_0_0_1 : S100x64x3x3.Slices ![0, 0, 0, 1] S100x64x1x1
  slices_S8x64x66x66_S8x64x64x64_0_0_0_2 : S8x64x66x66.Slices ![0, 0, 0, 2] S8x64x64x64
  slices_S100x64x3x3_S100x64x1x1_0_0_0_2 : S100x64x3x3.Slices ![0, 0, 0, 2] S100x64x1x1
  slices_S8x64x66x66_S8x64x64x64_0_0_1_0 : S8x64x66x66.Slices ![0, 0, 1, 0] S8x64x64x64
  slices_S100x64x3x3_S100x64x1x1_0_0_1_0 : S100x64x3x3.Slices ![0, 0, 1, 0] S100x64x1x1
  slices_S8x64x66x66_S8x64x64x64_0_0_1_1 : S8x64x66x66.Slices ![0, 0, 1, 1] S8x64x64x64
  slices_S100x64x3x3_S100x64x1x1_0_0_1_1 : S100x64x3x3.Slices ![0, 0, 1, 1] S100x64x1x1
  slices_S8x64x66x66_S8x64x64x64_0_0_1_2 : S8x64x66x66.Slices ![0, 0, 1, 2] S8x64x64x64
  slices_S100x64x3x3_S100x64x1x1_0_0_1_2 : S100x64x3x3.Slices ![0, 0, 1, 2] S100x64x1x1
  slices_S8x64x66x66_S8x64x64x64_0_0_2_0 : S8x64x66x66.Slices ![0, 0, 2, 0] S8x64x64x64
  slices_S100x64x3x3_S100x64x1x1_0_0_2_0 : S100x64x3x3.Slices ![0, 0, 2, 0] S100x64x1x1
  slices_S8x64x66x66_S8x64x64x64_0_0_2_1 : S8x64x66x66.Slices ![0, 0, 2, 1] S8x64x64x64
  slices_S100x64x3x3_S100x64x1x1_0_0_2_1 : S100x64x3x3.Slices ![0, 0, 2, 1] S100x64x1x1
  slices_S8x64x66x66_S8x64x64x64_0_0_2_2 : S8x64x66x66.Slices ![0, 0, 2, 2] S8x64x64x64
  slices_S100x64x3x3_S100x64x1x1_0_0_2_2 : S100x64x3x3.Slices ![0, 0, 2, 2] S100x64x1x1
  bcast_S100_S1x100x1x1_1 : S100.BroadcastsInDim S1x100x1x1 (![1] : Fin 1 → Fin S1x100x1x1.rank)
  bcast_S1x100x1x1_S8x100x64x64_0_1_2_3 : S1x100x1x1.BroadcastsInDim S8x100x64x64 (![0, 1, 2, 3] : Fin 4 → Fin S8x100x64x64.rank)
  dot_S64x128_S8x128x64x64_S64x8x64x64_1_1_0_023_n_n_wf : DotDims.WF S64x128 S8x128x64x64 S64x8x64x64 [1] [1] [0] [0, 2, 3] [] []
  dot_S100x64_S8x64x64x64_S100x8x64x64_1_1_0_023_n_n_wf : DotDims.WF S100x64 S8x64x64x64 S100x8x64x64 [1] [1] [0] [0, 2, 3] [] []

variable [Facts]

def dot_S64x128_S8x128x64x64_S64x8x64x64_1_1_0_023_n_n : DotDims S64x128 S8x128x64x64 S64x8x64x64 where
  lhsContracting := [1]
  rhsContracting := [1]
  lhsNonContracting := [0]
  rhsNonContracting := [0, 2, 3]
  lhsBatch := []
  rhsBatch := []
  wf := dot_S64x128_S8x128x64x64_S64x8x64x64_1_1_0_023_n_n_wf
def dot_S100x64_S8x64x64x64_S100x8x64x64_1_1_0_023_n_n : DotDims S100x64 S8x64x64x64 S100x8x64x64 where
  lhsContracting := [1]
  rhsContracting := [1]
  lhsNonContracting := [0]
  rhsNonContracting := [0, 2, 3]
  lhsBatch := []
  rhsBatch := []
  wf := dot_S100x64_S8x64x64x64_S100x8x64x64_1_1_0_023_n_n_wf
def fn_pad {F : FTy → Type} [FloatOps F] (arg0 : FVec F S8x64x64x64 .f32) (arg1 : IVec S_ 32) : FVec F S8x64x66x66 .f32 :=
  let v0 : FVec F S_ .f32 := sitofp .f32 arg1
  let v1 : FVec F S8x64x66x66 .f32 := (fun x v => pad S8x64x66x66 ![0, 0, 1, 1] ![0, 0, 1, 1] ![0, 0, 0, 0] x v pads_S8x64x64x64_S8x64x66x66_000_000_110_110 h_S_) arg0 v0
  v1

def fn_part2 {F : FTy → Type} [FloatOps F] (main_arg3 : FVec F S100x64x3x3 .f32) (main_arg4 : FVec F S100 .f32) (main_v6 : FVec F S8x64x66x66 .f32) (main_v43 : FVec F S8x100x64x64 .f32) (main_v44 : FVec F S8x64x64x64 .f32) (main_v45 : FVec F S100x64x1x1 .f32) : IVec S8x100x64x64 1 :=
  let main_v46 : FVec F S100x64 .f32 := shapeCast S100x64 main_v45 shapeCasts_S100x64x1x1_S100x64
  let main_v47 : FVec F S100x8x64x64 .f32 := (fun l r => Host.dotGeneral dot_S100x64_S8x64x64x64_S100x8x64x64_1_1_0_023_n_n none l r) main_v46 main_v44
  let main_v48 : FVec F S8x100x64x64 .f32 := (transpose S8x100x64x64 [1, 0, 2, 3] · transposes_S100x8x64x64_S8x100x64x64_1_0_2_3) main_v47
  let main_v49 : FVec F S8x100x64x64 .f32 := addf main_v43 main_v48
  let main_v50 : FVec F S8x64x64x64 .f32 := (extractStridedSlice S8x64x64x64 ![0, 0, 2, 1] · slices_S8x64x66x66_S8x64x64x64_0_0_2_1) main_v6
  let main_v51 : FVec F S100x64x1x1 .f32 := (extractStridedSlice S100x64x1x1 ![0, 0, 2, 1] · slices_S100x64x3x3_S100x64x1x1_0_0_2_1) main_arg3
  let main_v52 : FVec F S100x64 .f32 := shapeCast S100x64 main_v51 shapeCasts_S100x64x1x1_S100x64
  let main_v53 : FVec F S100x8x64x64 .f32 := (fun l r => Host.dotGeneral dot_S100x64_S8x64x64x64_S100x8x64x64_1_1_0_023_n_n none l r) main_v52 main_v50
  let main_v54 : FVec F S8x100x64x64 .f32 := (transpose S8x100x64x64 [1, 0, 2, 3] · transposes_S100x8x64x64_S8x100x64x64_1_0_2_3) main_v53
  let main_v55 : FVec F S8x100x64x64 .f32 := addf main_v49 main_v54
  let main_v56 : FVec F S8x64x64x64 .f32 := (extractStridedSlice S8x64x64x64 ![0, 0, 2, 2] · slices_S8x64x66x66_S8x64x64x64_0_0_2_2) main_v6
  let main_v57 : FVec F S100x64x1x1 .f32 := (extractStridedSlice S100x64x1x1 ![0, 0, 2, 2] · slices_S100x64x3x3_S100x64x1x1_0_0_2_2) main_arg3
  let main_v58 : FVec F S100x64 .f32 := shapeCast S100x64 main_v57 shapeCasts_S100x64x1x1_S100x64
  let main_v59 : FVec F S100x8x64x64 .f32 := (fun l r => Host.dotGeneral dot_S100x64_S8x64x64x64_S100x8x64x64_1_1_0_023_n_n none l r) main_v58 main_v56
  let main_v60 : FVec F S8x100x64x64 .f32 := (transpose S8x100x64x64 [1, 0, 2, 3] · transposes_S100x8x64x64_S8x100x64x64_1_0_2_3) main_v59
  let main_v61 : FVec F S8x100x64x64 .f32 := addf main_v55 main_v60
  let main_v62 : FVec F S1x100x1x1 .f32 := broadcastInDim S1x100x1x1 ![1] bcast_S100_S1x100x1x1_1 main_arg4
  let main_v63 : FVec F S8x100x64x64 .f32 := broadcastInDim S8x100x64x64 ![0, 1, 2, 3] bcast_S1x100x1x1_S8x100x64x64_0_1_2_3 main_v62
  let main_v64 : FVec F S8x100x64x64 .f32 := addf main_v61 main_v63
  let main_cst_0 : FVec F S_ .f32 := constant S_ .f32 0x42700000#32
  let main_v65 : FVec F S8x100x64x64 .f32 := broadcastInDim S8x100x64x64 ![] bcast_S_S8x100x64x64 main_cst_0
  let main_v66 : IVec S8x100x64x64 1 := cmpf .ole main_v64 main_v65
  main_v66

def fn_part1 {F : FTy → Type} [FloatOps F] (main_arg3 : FVec F S100x64x3x3 .f32) (main_arg4 : FVec F S100 .f32) (main_v6 : FVec F S8x64x66x66 .f32) (main_v19 : FVec F S8x100x64x64 .f32) (main_v20 : FVec F S8x64x64x64 .f32) (main_v21 : FVec F S100x64x1x1 .f32) : IVec S8x100x64x64 1 :=
  let main_v22 : FVec F S100x64 .f32 := shapeCast S100x64 main_v21 shapeCasts_S100x64x1x1_S100x64
  let main_v23 : FVec F S100x8x64x64 .f32 := (fun l r => Host.dotGeneral dot_S100x64_S8x64x64x64_S100x8x64x64_1_1_0_023_n_n none l r) main_v22 main_v20
  let main_v24 : FVec F S8x100x64x64 .f32 := (transpose S8x100x64x64 [1, 0, 2, 3] · transposes_S100x8x64x64_S8x100x64x64_1_0_2_3) main_v23
  let main_v25 : FVec F S8x100x64x64 .f32 := addf main_v19 main_v24
  let main_v26 : FVec F S8x64x64x64 .f32 := (extractStridedSlice S8x64x64x64 ![0, 0, 1, 0] · slices_S8x64x66x66_S8x64x64x64_0_0_1_0) main_v6
  let main_v27 : FVec F S100x64x1x1 .f32 := (extractStridedSlice S100x64x1x1 ![0, 0, 1, 0] · slices_S100x64x3x3_S100x64x1x1_0_0_1_0) main_arg3
  let main_v28 : FVec F S100x64 .f32 := shapeCast S100x64 main_v27 shapeCasts_S100x64x1x1_S100x64
  let main_v29 : FVec F S100x8x64x64 .f32 := (fun l r => Host.dotGeneral dot_S100x64_S8x64x64x64_S100x8x64x64_1_1_0_023_n_n none l r) main_v28 main_v26
  let main_v30 : FVec F S8x100x64x64 .f32 := (transpose S8x100x64x64 [1, 0, 2, 3] · transposes_S100x8x64x64_S8x100x64x64_1_0_2_3) main_v29
  let main_v31 : FVec F S8x100x64x64 .f32 := addf main_v25 main_v30
  let main_v32 : FVec F S8x64x64x64 .f32 := (extractStridedSlice S8x64x64x64 ![0, 0, 1, 1] · slices_S8x64x66x66_S8x64x64x64_0_0_1_1) main_v6
  let main_v33 : FVec F S100x64x1x1 .f32 := (extractStridedSlice S100x64x1x1 ![0, 0, 1, 1] · slices_S100x64x3x3_S100x64x1x1_0_0_1_1) main_arg3
  let main_v34 : FVec F S100x64 .f32 := shapeCast S100x64 main_v33 shapeCasts_S100x64x1x1_S100x64
  let main_v35 : FVec F S100x8x64x64 .f32 := (fun l r => Host.dotGeneral dot_S100x64_S8x64x64x64_S100x8x64x64_1_1_0_023_n_n none l r) main_v34 main_v32
  let main_v36 : FVec F S8x100x64x64 .f32 := (transpose S8x100x64x64 [1, 0, 2, 3] · transposes_S100x8x64x64_S8x100x64x64_1_0_2_3) main_v35
  let main_v37 : FVec F S8x100x64x64 .f32 := addf main_v31 main_v36
  let main_v38 : FVec F S8x64x64x64 .f32 := (extractStridedSlice S8x64x64x64 ![0, 0, 1, 2] · slices_S8x64x66x66_S8x64x64x64_0_0_1_2) main_v6
  let main_v39 : FVec F S100x64x1x1 .f32 := (extractStridedSlice S100x64x1x1 ![0, 0, 1, 2] · slices_S100x64x3x3_S100x64x1x1_0_0_1_2) main_arg3
  let main_v40 : FVec F S100x64 .f32 := shapeCast S100x64 main_v39 shapeCasts_S100x64x1x1_S100x64
  let main_v41 : FVec F S100x8x64x64 .f32 := (fun l r => Host.dotGeneral dot_S100x64_S8x64x64x64_S100x8x64x64_1_1_0_023_n_n none l r) main_v40 main_v38
  let main_v42 : FVec F S8x100x64x64 .f32 := (transpose S8x100x64x64 [1, 0, 2, 3] · transposes_S100x8x64x64_S8x100x64x64_1_0_2_3) main_v41
  let main_v43 : FVec F S8x100x64x64 .f32 := addf main_v37 main_v42
  let main_v44 : FVec F S8x64x64x64 .f32 := (extractStridedSlice S8x64x64x64 ![0, 0, 2, 0] · slices_S8x64x66x66_S8x64x64x64_0_0_2_0) main_v6
  let main_v45 : FVec F S100x64x1x1 .f32 := (extractStridedSlice S100x64x1x1 ![0, 0, 2, 0] · slices_S100x64x3x3_S100x64x1x1_0_0_2_0) main_arg3
  fn_part2 (F := F) main_arg3 main_arg4 main_v6 main_v43 main_v44 main_v45

def fn {F : FTy → Type} [FloatOps F] (main_arg0 : FVec F S8x128x64x64 .f32) (main_arg1 : FVec F S64x128x1x1 .f32) (main_arg2 : FVec F S64 .f32) (main_arg3 : FVec F S100x64x3x3 .f32) (main_arg4 : FVec F S100 .f32) : IVec S8x100x64x64 1 :=
  let main_v0 : FVec F S64x128 .f32 := shapeCast S64x128 main_arg1 shapeCasts_S64x128x1x1_S64x128
  let main_v1 : FVec F S64x8x64x64 .f32 := (fun l r => Host.dotGeneral dot_S64x128_S8x128x64x64_S64x8x64x64_1_1_0_023_n_n none l r) main_v0 main_arg0
  let main_v2 : FVec F S8x64x64x64 .f32 := (transpose S8x64x64x64 [1, 0, 2, 3] · transposes_S64x8x64x64_S8x64x64x64_1_0_2_3) main_v1
  let main_v3 : FVec F S1x64x1x1 .f32 := broadcastInDim S1x64x1x1 ![1] bcast_S64_S1x64x1x1_1 main_arg2
  let main_v4 : FVec F S8x64x64x64 .f32 := broadcastInDim S8x64x64x64 ![0, 1, 2, 3] bcast_S1x64x1x1_S8x64x64x64_0_1_2_3 main_v3
  let main_v5 : FVec F S8x64x64x64 .f32 := addf main_v2 main_v4
  let main_c : IVec S_ 32 := constantI S_ 32 0#32
  let main_v6 : FVec F S8x64x66x66 .f32 := fn_pad (F := F) main_v5 main_c
  let main_v7 : FVec F S8x64x64x64 .f32 := (extractStridedSlice S8x64x64x64 ![0, 0, 0, 0] · slices_S8x64x66x66_S8x64x64x64_0_0_0_0) main_v6
  let main_v8 : FVec F S100x64x1x1 .f32 := (extractStridedSlice S100x64x1x1 ![0, 0, 0, 0] · slices_S100x64x3x3_S100x64x1x1_0_0_0_0) main_arg3
  let main_v9 : FVec F S100x64 .f32 := shapeCast S100x64 main_v8 shapeCasts_S100x64x1x1_S100x64
  let main_v10 : FVec F S100x8x64x64 .f32 := (fun l r => Host.dotGeneral dot_S100x64_S8x64x64x64_S100x8x64x64_1_1_0_023_n_n none l r) main_v9 main_v7
  let main_v11 : FVec F S8x100x64x64 .f32 := (transpose S8x100x64x64 [1, 0, 2, 3] · transposes_S100x8x64x64_S8x100x64x64_1_0_2_3) main_v10
  let main_cst : FVec F S_ .f32 := constant S_ .f32 0x00000000#32
  let main_v12 : FVec F S8x100x64x64 .f32 := broadcastInDim S8x100x64x64 ![] bcast_S_S8x100x64x64 main_cst
  let main_v13 : FVec F S8x100x64x64 .f32 := addf main_v12 main_v11
  let main_v14 : FVec F S8x64x64x64 .f32 := (extractStridedSlice S8x64x64x64 ![0, 0, 0, 1] · slices_S8x64x66x66_S8x64x64x64_0_0_0_1) main_v6
  let main_v15 : FVec F S100x64x1x1 .f32 := (extractStridedSlice S100x64x1x1 ![0, 0, 0, 1] · slices_S100x64x3x3_S100x64x1x1_0_0_0_1) main_arg3
  let main_v16 : FVec F S100x64 .f32 := shapeCast S100x64 main_v15 shapeCasts_S100x64x1x1_S100x64
  let main_v17 : FVec F S100x8x64x64 .f32 := (fun l r => Host.dotGeneral dot_S100x64_S8x64x64x64_S100x8x64x64_1_1_0_023_n_n none l r) main_v16 main_v14
  let main_v18 : FVec F S8x100x64x64 .f32 := (transpose S8x100x64x64 [1, 0, 2, 3] · transposes_S100x8x64x64_S8x100x64x64_1_0_2_3) main_v17
  let main_v19 : FVec F S8x100x64x64 .f32 := addf main_v13 main_v18
  let main_v20 : FVec F S8x64x64x64 .f32 := (extractStridedSlice S8x64x64x64 ![0, 0, 0, 2] · slices_S8x64x66x66_S8x64x64x64_0_0_0_2) main_v6
  let main_v21 : FVec F S100x64x1x1 .f32 := (extractStridedSlice S100x64x1x1 ![0, 0, 0, 2] · slices_S100x64x3x3_S100x64x1x1_0_0_0_2) main_arg3
  fn_part1 (F := F) main_arg3 main_arg4 main_v6 main_v19 main_v20 main_v21
-- ==== Kernel.lean ====
abbrev S8x128x64x64 : Shape := ⟨4, ![8, 128, 64, 64]⟩
abbrev S64x128x1x1 : Shape := ⟨4, ![64, 128, 1, 1]⟩
abbrev S64 : Shape := ⟨1, ![64]⟩
abbrev S100x64x3x3 : Shape := ⟨4, ![100, 64, 3, 3]⟩
abbrev S100 : Shape := ⟨1, ![100]⟩
abbrev S128x128 : Shape := ⟨2, ![128, 128]⟩
abbrev S5x64x128 : Shape := ⟨3, ![5, 64, 128]⟩
abbrev S_ : Shape := ⟨0, ![]⟩
abbrev S8x128x66x66 : Shape := ⟨4, ![8, 128, 66, 66]⟩
abbrev S8x1x64x64 : Shape := ⟨4, ![8, 1, 64, 64]⟩
abbrev S8x1x66x66 : Shape := ⟨4, ![8, 1, 66, 66]⟩
abbrev S8x129x66x66 : Shape := ⟨4, ![8, 129, 66, 66]⟩
abbrev S8x66x66x129 : Shape := ⟨4, ![8, 66, 66, 129]⟩
abbrev S8x4356x129 : Shape := ⟨3, ![8, 4356, 129]⟩
abbrev S8x4360x129 : Shape := ⟨3, ![8, 4360, 129]⟩
abbrev S64x128 : Shape := ⟨2, ![64, 128]⟩
abbrev S64x1 : Shape := ⟨2, ![64, 1]⟩
abbrev S64x129 : Shape := ⟨2, ![64, 129]⟩
abbrev S129x64 : Shape := ⟨2, ![129, 64]⟩
abbrev S25x4x64x3x3 : Shape := ⟨5, ![25, 4, 64, 3, 3]⟩
abbrev S32x4x64x3x3 : Shape := ⟨5, ![32, 4, 64, 3, 3]⟩
abbrev S3x3x64x4x32 : Shape := ⟨5, ![3, 3, 64, 4, 32]⟩
abbrev S9x64x128 : Shape := ⟨3, ![9, 64, 128]⟩
abbrev S25x4 : Shape := ⟨2, ![25, 4]⟩
abbrev S32x4 : Shape := ⟨2, ![32, 4]⟩
abbrev S4x32 : Shape := ⟨2, ![4, 32]⟩
abbrev S1x128 : Shape := ⟨2, ![1, 128]⟩
abbrev S8x4360x128 : Shape := ⟨3, ![8, 4360, 128]⟩
abbrev S1x4360x129 : Shape := ⟨3, ![1, 4360, 129]⟩
abbrev S1x4360x128 : Shape := ⟨3, ![1, 4360, 128]⟩
abbrev S4360x129 : Shape := ⟨2, ![4360, 129]⟩
abbrev S4360x64 : Shape := ⟨2, ![4360, 64]⟩
abbrev S4504x64 : Shape := ⟨2, ![4504, 64]⟩
abbrev S72x64 : Shape := ⟨2, ![72, 64]⟩
abbrev S1x64x128 : Shape := ⟨3, ![1, 64, 128]⟩
abbrev S4360x128 : Shape := ⟨2, ![4360, 128]⟩
abbrev S8x4356x128 : Shape := ⟨3, ![8, 4356, 128]⟩
abbrev S8x66x66x4x32 : Shape := ⟨5, ![8, 66, 66, 4, 32]⟩
abbrev S8x64x64x4x32 : Shape := ⟨5, ![8, 64, 64, 4, 32]⟩
abbrev S8x64x64x2x2x32 : Shape := ⟨6, ![8, 64, 64, 2, 2, 32]⟩
abbrev S8x2x32x64x64x2 : Shape := ⟨6, ![8, 2, 32, 64, 64, 2]⟩
abbrev S8x2x32x64x128 : Shape := ⟨5, ![8, 2, 32, 64, 128]⟩
abbrev S8x128x128x128 : Shape := ⟨4, ![8, 128, 128, 128]⟩
abbrev S1x128x64x64 : Shape := ⟨4, ![1, 128, 64, 64]⟩
abbrev S1x2x32x64x128 : Shape := ⟨5, ![1, 2, 32, 64, 128]⟩
abbrev S1x128x128x128 : Shape := ⟨4, ![1, 128, 128, 128]⟩
abbrev S128x64x64 : Shape := ⟨3, ![128, 64, 64]⟩
abbrev S128x2x64 : Shape := ⟨3, ![128, 2, 64]⟩
abbrev S128x68x64 : Shape := ⟨3, ![128, 68, 64]⟩
abbrev S128x16x64 : Shape := ⟨3, ![128, 16, 64]⟩
abbrev S128x8x128 : Shape := ⟨3, ![128, 8, 128]⟩
abbrev S128x8x64 : Shape := ⟨3, ![128, 8, 64]⟩
abbrev S1024x64 : Shape := ⟨2, ![1024, 64]⟩
abbrev S1024x128 : Shape := ⟨2, ![1024, 128]⟩
abbrev S1x1x1x8x128 : Shape := ⟨5, ![1, 1, 1, 8, 128]⟩
abbrev S8x128 : Shape := ⟨2, ![8, 128]⟩
abbrev S1x8x128 : Shape := ⟨3, ![1, 8, 128]⟩
abbrev S128x8x1x128 : Shape := ⟨4, ![128, 8, 1, 128]⟩
abbrev S128x8x2x128 : Shape := ⟨4, ![128, 8, 2, 128]⟩
abbrev S128x16x128 : Shape := ⟨3, ![128, 16, 128]⟩
abbrev S1x128x16x128 : Shape := ⟨4, ![1, 128, 16, 128]⟩
abbrev S128x12x64 : Shape := ⟨3, ![128, 12, 64]⟩
abbrev S128x4x64 : Shape := ⟨3, ![128, 4, 64]⟩

abbrev nBuf : Space → Nat
  | .hbm => 45
  | .vmem => 16
  | .smem => 0
  | _ => 0

abbrev bufTy : (tb : Table) → Fin (tcTables nBuf tb) → BufTy
  | .hbm, ⟨0, _⟩ => ⟨S8x128x64x64, .f32⟩
  | .hbm, ⟨1, _⟩ => ⟨S64x128x1x1, .f32⟩
  | .hbm, ⟨2, _⟩ => ⟨S64, .f32⟩
  | .hbm, ⟨3, _⟩ => ⟨S100x64x3x3, .f32⟩
  | .hbm, ⟨4, _⟩ => ⟨S100, .f32⟩
  | .hbm, ⟨5, _⟩ => ⟨S128x128, .f32⟩
  | .hbm, ⟨6, _⟩ => ⟨S5x64x128, .f32⟩
  | .hbm, ⟨7, _⟩ => ⟨S_, .i32⟩
  | .hbm, ⟨8, _⟩ => ⟨S_, .f32⟩
  | .hbm, ⟨9, _⟩ => ⟨S8x128x66x66, .f32⟩
  | .hbm, ⟨10, _⟩ => ⟨S_, .f32⟩
  | .hbm, ⟨11, _⟩ => ⟨S8x1x64x64, .f32⟩
  | .hbm, ⟨12, _⟩ => ⟨S_, .i32⟩
  | .hbm, ⟨13, _⟩ => ⟨S_, .f32⟩
  | .hbm, ⟨14, _⟩ => ⟨S8x1x66x66, .f32⟩
  | .hbm, ⟨15, _⟩ => ⟨S8x129x66x66, .f32⟩
  | .hbm, ⟨16, _⟩ => ⟨S8x66x66x129, .f32⟩
  | .hbm, ⟨17, _⟩ => ⟨S8x4356x129, .f32⟩
  | .hbm, ⟨18, _⟩ => ⟨S_, .i32⟩
  | .hbm, ⟨19, _⟩ => ⟨S_, .f32⟩
  | .hbm, ⟨20, _⟩ => ⟨S8x4360x129, .f32⟩
  | .hbm, ⟨21, _⟩ => ⟨S64x128, .f32⟩
  | .hbm, ⟨22, _⟩ => ⟨S64x1, .f32⟩
  | .hbm, ⟨23, _⟩ => ⟨S64x129, .f32⟩
  | .hbm, ⟨24, _⟩ => ⟨S129x64, .f32⟩
  | .hbm, ⟨25, _⟩ => ⟨S25x4x64x3x3, .f32⟩
  | .hbm, ⟨26, _⟩ => ⟨S_, .i32⟩
  | .hbm, ⟨27, _⟩ => ⟨S_, .f32⟩
  | .hbm, ⟨28, _⟩ => ⟨S32x4x64x3x3, .f32⟩
  | .hbm, ⟨29, _⟩ => ⟨S3x3x64x4x32, .f32⟩
  | .hbm, ⟨30, _⟩ => ⟨S9x64x128, .f32⟩
  | .hbm, ⟨31, _⟩ => ⟨S25x4, .f32⟩
  | .hbm, ⟨32, _⟩ => ⟨S_, .f32⟩
  | .hbm, ⟨33, _⟩ => ⟨S_, .f32⟩
  | .hbm, ⟨34, _⟩ => ⟨S32x4, .f32⟩
  | .hbm, ⟨35, _⟩ => ⟨S4x32, .f32⟩
  | .hbm, ⟨36, _⟩ => ⟨S1x128, .f32⟩
  | .hbm, ⟨37, _⟩ => ⟨S8x4360x128, .f32⟩
  | .hbm, ⟨38, _⟩ => ⟨S8x4356x128, .f32⟩
  | .hbm, ⟨39, _⟩ => ⟨S8x66x66x4x32, .f32⟩
  | .hbm, ⟨40, _⟩ => ⟨S8x64x64x4x32, .f32⟩
  | .hbm, ⟨41, _⟩ => ⟨S8x64x64x2x2x32, .f32⟩
  | .hbm, ⟨42, _⟩ => ⟨S8x2x32x64x64x2, .f32⟩
  | .hbm, ⟨43, _⟩ => ⟨S8x2x32x64x128, .f32⟩
  | .hbm, ⟨44, _⟩ => ⟨S8x128x128x128, .f32⟩
  | .local _ .vmem, ⟨0, _⟩ => ⟨S1x4360x129, .f32⟩
  | .local _ .vmem, ⟨1, _⟩ => ⟨S1x4360x129, .f32⟩
  | .local _ .vmem, ⟨2, _⟩ => ⟨S129x64, .f32⟩
  | .local _ .vmem, ⟨3, _⟩ => ⟨S9x64x128, .f32⟩
  | .local _ .vmem, ⟨4, _⟩ => ⟨S1x128, .f32⟩
  | .local _ .vmem, ⟨5, _⟩ => ⟨S128x128, .f32⟩
  | .local _ .vmem, ⟨6, _⟩ => ⟨S1x4360x128, .f32⟩
  | .local _ .vmem, ⟨7, _⟩ => ⟨S1x4360x128, .f32⟩
  | .local _ .vmem, ⟨8, _⟩ => ⟨S4504x64, .f32⟩
  | .local _ .vmem, ⟨9, _⟩ => ⟨S1x128x64x64, .f32⟩
  | .local _ .vmem, ⟨10, _⟩ => ⟨S1x128x64x64, .f32⟩
  | .local _ .vmem, ⟨11, _⟩ => ⟨S1x2x32x64x128, .f32⟩
  | .local _ .vmem, ⟨12, _⟩ => ⟨S1x2x32x64x128, .f32⟩
  | .local _ .vmem, ⟨13, _⟩ => ⟨S5x64x128, .f32⟩
  | .local _ .vmem, ⟨14, _⟩ => ⟨S1x128x128x128, .f32⟩
  | .local _ .vmem, ⟨15, _⟩ => ⟨S1x128x128x128, .f32⟩
  | _, _ => ⟨S8x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_cst_1 : Ref sig .tc := ⟨.hbm, 10, rfl⟩
abbrev main_v1 : Ref sig .tc := ⟨.hbm, 11, rfl⟩
abbrev main_c_2 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_call2_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_call3_v0 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_5 : Ref sig .tc := ⟨.hbm, 32, rfl⟩
abbrev main_call4_v0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scoped0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4360x129 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S129x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4360x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x2x32x64x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S8x128x64x64 : Shape := ⟨4, ![8, 128, 64, 64]⟩
abbrev S64x128x1x1 : Shape := ⟨4, ![64, 128, 1, 1]⟩
abbrev S64 : Shape := ⟨1, ![64]⟩
abbrev S100x64x3x3 : Shape := ⟨4, ![100, 64, 3, 3]⟩
abbrev S100 : Shape := ⟨1, ![100]⟩
abbrev S64x128 : Shape := ⟨2, ![64, 128]⟩
abbrev S64x8x64x64 : Shape := ⟨4, ![64, 8, 64, 64]⟩
abbrev S8x64x64x64 : Shape := ⟨4, ![8, 64, 64, 64]⟩
abbrev S1x64x1x1 : Shape := ⟨4, ![1, 64, 1, 1]⟩
abbrev S_ : Shape := ⟨0, ![]⟩
abbrev S8x64x66x66 : Shape := ⟨4, ![8, 64, 66, 66]⟩
abbrev S100x64x1x1 : Shape := ⟨4, ![100, 64, 1, 1]⟩
abbrev S100x64 : Shape := ⟨2, ![100, 64]⟩
abbrev S100x8x64x64 : Shape := ⟨4, ![100, 8, 64, 64]⟩
abbrev S8x100x64x64 : Shape := ⟨4, ![8, 100, 64, 64]⟩
abbrev S1x100x1x1 : Shape := ⟨4, ![1, 100, 1, 1]⟩
abbrev S8x25x2x2x64x64 : Shape := ⟨6, ![8, 25, 2, 2, 64, 64]⟩
abbrev S8x25x64x2x64x2 : Shape := ⟨6, ![8, 25, 64, 2, 64, 2]⟩
abbrev S8x25x128x128 : Shape := ⟨4, ![8, 25, 128, 128]⟩
abbrev S8x128x128 : Shape := ⟨3, ![8, 128, 128]⟩
abbrev S8x1x128x128 : Shape := ⟨4, ![8, 1, 128, 128]⟩
abbrev S8x128x68x68 : Shape := ⟨4, ![8, 128, 68, 68]⟩
abbrev S8x128x1x64x64 : Shape := ⟨5, ![8, 128, 1, 64, 64]⟩
abbrev S8x128x16x64x64 : Shape := ⟨5, ![8, 128, 16, 64, 64]⟩
abbrev S8x128x9x64x64 : Shape := ⟨5, ![8, 128, 9, 64, 64]⟩
abbrev S8x128x25x64x64 : Shape := ⟨5, ![8, 128, 25, 64, 64]⟩
abbrev S8x128x25x64x2x64 : Shape := ⟨6, ![8, 128, 25, 64, 2, 64]⟩
abbrev S8x128x25x128x64 : Shape := ⟨5, ![8, 128, 25, 128, 64]⟩
abbrev S8x128x25x128x64x2 : Shape := ⟨6, ![8, 128, 25, 128, 64, 2]⟩
abbrev S8x128x25x128x128 : Shape := ⟨5, ![8, 128, 25, 128, 128]⟩
abbrev S8x1x25x128x128 : Shape := ⟨5, ![8, 1, 25, 128, 128]⟩
abbrev S8x128x128x128 : Shape := ⟨4, ![8, 128, 128, 128]⟩

abbrev nBuf : Space → Nat
  | .hbm => 155
  | .vmem => 0
  | .smem => 0
  | _ => 0

abbrev hbmTy0_0 (i : Nat) : BufTy := match i % 128 with
  | 0 => ⟨S8x128x64x64, .f32⟩
  | 1 => ⟨S64x128x1x1, .f32⟩
  | 2 => ⟨S64, .f32⟩
  | 3 => ⟨S100x64x3x3, .f32⟩
  | 4 => ⟨S100, .f32⟩
  | 5 => ⟨S64x128, .f32⟩
  | 6 => ⟨S64x8x64x64, .f32⟩
  | 7 => ⟨S8x64x64x64, .f32⟩
  | 8 => ⟨S1x64x1x1, .f32⟩
  | 9 => ⟨S8x64x64x64, .f32⟩
  | 10 => ⟨S8x64x64x64, .f32⟩
  | 11 => ⟨S_, .i32⟩
  | 12 => ⟨S_, .f32⟩
  | 13 => ⟨S8x64x66x66, .f32⟩
  | 14 => ⟨S8x64x64x64, .f32⟩
  | 15 => ⟨S100x64x1x1, .f32⟩
  | 16 => ⟨S100x64, .f32⟩
  | 17 => ⟨S100x8x64x64, .f32⟩
  | 18 => ⟨S8x100x64x64, .f32⟩
  | 19 => ⟨S_, .f32⟩
  | 20 => ⟨S8x100x64x64, .f32⟩
  | 21 => ⟨S8x100x64x64, .f32⟩
  | 22 => ⟨S8x64x64x64, .f32⟩
  | 23 => ⟨S100x64x1x1, .f32⟩
  | 24 => ⟨S100x64, .f32⟩
  | 25 => ⟨S100x8x64x64, .f32⟩
  | 26 => ⟨S8x100x64x64, .f32⟩
  | 27 => ⟨S8x100x64x64, .f32⟩
  | 28 => ⟨S8x64x64x64, .f32⟩
  | 29 => ⟨S100x64x1x1, .f32⟩
  | 30 => ⟨S100x64, .f32⟩
  | 31 => ⟨S100x8x64x64, .f32⟩
  | 32 => ⟨S8x100x64x64, .f32⟩
  | 33 => ⟨S8x100x64x64, .f32⟩
  | 34 => ⟨S8x64x64x64, .f32⟩
  | 35 => ⟨S100x64x1x1, .f32⟩
  | 36 => ⟨S100x64, .f32⟩
  | 37 => ⟨S100x8x64x64, .f32⟩
  | 38 => ⟨S8x100x64x64, .f32⟩
  | 39 => ⟨S8x100x64x64, .f32⟩
  | 40 => ⟨S8x64x64x64, .f32⟩
  | 41 => ⟨S100x64x1x1, .f32⟩
  | 42 => ⟨S100x64, .f32⟩
  | 43 => ⟨S100x8x64x64, .f32⟩
  | 44 => ⟨S8x100x64x64, .f32⟩
  | 45 => ⟨S8x100x64x64, .f32⟩
  | 46 => ⟨S8x64x64x64, .f32⟩
  | 47 => ⟨S100x64x1x1, .f32⟩
  | 48 => ⟨S100x64, .f32⟩
  | 49 => ⟨S100x8x64x64, .f32⟩
  | 50 => ⟨S8x100x64x64, .f32⟩
  | 51 => ⟨S8x100x64x64, .f32⟩
  | 52 => ⟨S8x64x64x64, .f32⟩
  | 53 => ⟨S100x64x1x1, .f32⟩
  | 54 => ⟨S100x64, .f32⟩
  | 55 => ⟨S100x8x64x64, .f32⟩
  | 56 => ⟨S8x100x64x64, .f32⟩
  | 57 => ⟨S8x100x64x64, .f32⟩
  | 58 => ⟨S8x64x64x64, .f32⟩
  | 59 => ⟨S100x64x1x1, .f32⟩
  | 60 => ⟨S100x64, .f32⟩
  | 61 => ⟨S100x8x64x64, .f32⟩
  | 62 => ⟨S8x100x64x64, .f32⟩
  | 63 => ⟨S8x100x64x64, .f32⟩
  | 64 => ⟨S8x64x64x64, .f32⟩
  | 65 => ⟨S100x64x1x1, .f32⟩
  | 66 => ⟨S100x64, .f32⟩
  | 67 => ⟨S100x8x64x64, .f32⟩
  | 68 => ⟨S8x100x64x64, .f32⟩
  | 69 => ⟨S8x100x64x64, .f32⟩
  | 70 => ⟨S1x100x1x1, .f32⟩
  | 71 => ⟨S8x100x64x64, .f32⟩
  | 72 => ⟨S8x100x64x64, .f32⟩
  | 73 => ⟨S8x25x2x2x64x64, .f32⟩
  | 74 => ⟨S8x25x64x2x64x2, .f32⟩
  | 75 => ⟨S8x25x128x128, .f32⟩
  | 76 => ⟨S_, .f32⟩
  | 77 => ⟨S8x128x128, .f32⟩
  | 78 => ⟨S_, .f32⟩
  | 79 => ⟨S8x128x128, .f32⟩
  | 80 => ⟨S8x128x128, .f32⟩
  | 81 => ⟨S8x1x128x128, .f32⟩
  | 82 => ⟨S8x25x128x128, .f32⟩
  | 83 => ⟨S8x25x128x128, .f32⟩
  | 84 => ⟨S8x25x128x128, .f32⟩
  | 85 => ⟨S_, .f32⟩
  | 86 => ⟨S8x128x128, .f32⟩
  | 87 => ⟨S8x1x128x128, .f32⟩
  | 88 => ⟨S8x25x128x128, .f32⟩
  | 89 => ⟨S8x25x128x128, .f32⟩
  | 90 => ⟨S_, .i32⟩
  | 91 => ⟨S_, .f32⟩
  | 92 => ⟨S8x128x68x68, .f32⟩
  | 93 => ⟨S8x128x64x64, .f32⟩
  | 94 => ⟨S8x128x64x64, .f32⟩
  | 95 => ⟨S8x128x64x64, .f32⟩
  | 96 => ⟨S8x128x64x64, .f32⟩
  | 97 => ⟨S8x128x64x64, .f32⟩
  | 98 => ⟨S8x128x64x64, .f32⟩
  | 99 => ⟨S8x128x64x64, .f32⟩
  | 100 => ⟨S8x128x64x64, .f32⟩
  | 101 => ⟨S8x128x64x64, .f32⟩
  | 102 => ⟨S8x128x64x64, .f32⟩
  | 103 => ⟨S8x128x64x64, .f32⟩
  | 104 => ⟨S8x128x64x64, .f32⟩
  | 105 => ⟨S8x128x64x64, .f32⟩
  | 106 => ⟨S8x128x64x64, .f32⟩
  | 107 => ⟨S8x128x64x64, .f32⟩
  | 108 => ⟨S8x128x64x64, .f32⟩
  | 109 => ⟨S8x128x64x64, .f32⟩
  | 110 => ⟨S8x128x64x64, .f32⟩
  | 111 => ⟨S8x128x64x64, .f32⟩
  | 112 => ⟨S8x128x64x64, .f32⟩
  | 113 => ⟨S8x128x64x64, .f32⟩
  | 114 => ⟨S8x128x64x64, .f32⟩
  | 115 => ⟨S8x128x64x64, .f32⟩
  | 116 => ⟨S8x128x64x64, .f32⟩
  | 117 => ⟨S8x128x64x64, .f32⟩
  | 118 => ⟨S8x128x1x64x64, .f32⟩
  | 119 => ⟨S8x128x1x64x64, .f32⟩
  | 120 => ⟨S8x128x1x64x64, .f32⟩
  | 121 => ⟨S8x128x1x64x64, .f32⟩
  | 122 => ⟨S8x128x1x64x64, .f32⟩
  | 123 => ⟨S8x128x1x64x64, .f32⟩
  | 124 => ⟨S8x128x1x64x64, .f32⟩
  | 125 => ⟨S8x128x1x64x64, .f32⟩
  | 126 => ⟨S8x128x1x64x64, .f32⟩
  | 127 => ⟨S8x128x1x64x64, .f32⟩
  | _ => ⟨S8x128x64x64, .f32⟩

abbrev hbmTy0_1 (i : Nat) : BufTy := match i % 128 with
  | 0 => ⟨S8x128x1x64x64, .f32⟩
  | 1 => ⟨S8x128x1x64x64, .f32⟩
  | 2 => ⟨S8x128x1x64x64, .f32⟩
  | 3 => ⟨S8x128x1x64x64, .f32⟩
  | 4 => ⟨S8x128x1x64x64, .f32⟩
  | 5 => ⟨S8x128x1x64x64, .f32⟩
  | 6 => ⟨S8x128x1x64x64, .f32⟩
  | 7 => ⟨S8x128x1x64x64, .f32⟩
  | 8 => ⟨S8x128x1x64x64, .f32⟩
  | 9 => ⟨S8x128x1x64x64, .f32⟩
  | 10 => ⟨S8x128x1x64x64, .f32⟩
  | 11 => ⟨S8x128x1x64x64, .f32⟩
  | 12 => ⟨S8x128x1x64x64, .f32⟩
  | 13 => ⟨S8x128x1x64x64, .f32⟩
  | 14 => ⟨S8x128x1x64x64, .f32⟩
  | 15 => ⟨S8x128x16x64x64, .f32⟩
  | 16 => ⟨S8x128x9x64x64, .f32⟩
  | 17 => ⟨S8x128x25x64x64, .f32⟩
  | 18 => ⟨S8x128x25x64x2x64, .f32⟩
  | 19 => ⟨S8x128x25x128x64, .f32⟩
  | 20 => ⟨S8x128x25x128x64x2, .f32⟩
  | 21 => ⟨S8x128x25x128x128, .f32⟩
  | 22 => ⟨S8x1x25x128x128, .f32⟩
  | 23 => ⟨S8x128x25x128x128, .f32⟩
  | 24 => ⟨S8x128x25x128x128, .f32⟩
  | 25 => ⟨S_, .f32⟩
  | 26 => ⟨S8x128x128x128, .f32⟩
  | _ => ⟨S8x128x64x64, .f32⟩

abbrev hbmTy (i : Nat) : BufTy := match i / 128 with
  | 0 => hbmTy0_0 i
  | 1 => hbmTy0_1 i
  | _ => ⟨S8x128x64x64, .f32⟩

abbrev bufTy : (tb : Table) → Fin (tcTables nBuf tb) → BufTy
  | .hbm, ⟨i, _⟩ => hbmTy i
  | _, _ => ⟨S8x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_cst_0 : Ref sig .tc := ⟨.hbm, 76, rfl⟩
abbrev main_v68 : Ref sig .tc := ⟨.hbm, 77, rfl⟩
abbrev main_cst_1 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_2 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_c_3 : Ref sig .tc := ⟨.hbm, 90, rfl⟩
abbrev main_call1_v0 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_v136 : Ref sig .tc := ⟨.hbm, 149, rfl⟩
abbrev main_v137 : Ref sig .tc := ⟨.hbm, 150, rfl⟩
abbrev main_v138 : Ref sig .tc := ⟨.hbm, 151, rfl⟩
abbrev main_v139 : Ref sig .tc := ⟨.hbm, 152, rfl⟩
abbrev main_cst_4 : Ref sig .tc := ⟨.hbm, 153, rfl⟩
abbrev main_v140 : Ref sig .tc := ⟨.hbm, 154, rfl⟩

abbrev nD : Nat := 1
abbrev τ : Topo := Topo.v7x

variable {F : FTy → Type} [FloatOps F]
-- ==== Proof.KRun.lean ====
module

public import proofs.«01_k».proof.Proof.Gen.KernelIdeal.Frame

/-! The kernel's run, ending with its result as well as with its arguments. -/

@[expose] public section

set_option maxRecDepth 16384

noncomputable section

namespace Cert.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution of the kernel ends with the result array at the last boundary's
contents, the arguments as launched and every counter at zero. -/
theorem run : θ_run defs (onTc (τ := τ) (main (F := F))) ⟨m, fun _ => 0, ρ⟩ (fun r => (∀ c : Dev nD,
      r.2.mem ((c.tc : Thread nD τ).loc main_v26) = W14 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h hz => ⟨(fun c =>
      ⟨h c _ (mem_uc main_v26 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c)⟩), funext fun g => hz g (.inr (no_unscoped g.2))⟩)

end Cert.KRun
-- ==== Proof.Weights.lean ====
module
public import proofs.«01_k».proof.Proof.Gen.KernelIdeal.Frame
public import Idealize.ShloMosaic.Lib.Pointwise
public import Idealize.ShloMosaic.Lib.Pipeline.ValueKit
public import Idealize.ShloMosaic.Lib.Pipeline.ReadBack

/-! The weights call: what one of its blocks writes, at an index, in terms of its five operands. -/

@[expose] public section
open Idealize Idealize.ShloMosaic Cert.KernelIdeal Cert.KernelIdeal.Gen
namespace Cert.Weights
set_option maxRecDepth 16384

theorem pay3_at (v0 : Vec Ideal S1x4360x129 .f32) (v2 : Vec Ideal S129x64 .f32) (p : Fin 4360) (m : Fin 64) :
    (k0_pay3 (F := Ideal) v0 v2 (ix2 p m) : EReal) = ∑ k : Fin 129, v0 (ix3 0 p k) * v2 (ix2 k m) := by
  pointwise [k0_pay3]

theorem pay5_at (b : Vec Ideal S1x128 .f32) (s : Vec Ideal S4360x64 .f32) (e : Vec Ideal S1x64x128 .f32) (p : Fin 4360) (j : Fin 128) :
    (k0_pay5 (F := Ideal) b s e (ix2 p j) : EReal) = b (ix2 0 j) + ∑ m : Fin 64, s (ix2 p m) * e (ix3 0 m j) := by
  pointwise [k0_pay5]

theorem pay6_at (s : Vec Ideal S4360x64 .f32) (e : Vec Ideal S1x64x128 .f32) (p : Fin 4360) (j : Fin 128) :
    (k0_pay6 (F := Ideal) s e (ix2 p j) : EReal) = ∑ m : Fin 64, s (ix2 p m) * e (ix3 0 m j) := by
  pointwise [k0_pay6]

theorem pay7_at (A B : FVec Ideal S4360x128 .f32) (s2 : Vec Ideal S4360x64 .f32) (e2 : Vec Ideal S1x64x128 .f32) (s3 : Vec Ideal S4360x64 .f32) (e3 : Vec Ideal S1x64x128 .f32)
    (s4 : Vec Ideal S4360x64 .f32) (e4 : Vec Ideal S1x64x128 .f32) (s5 : Vec Ideal S4360x64 .f32) (e5 : Vec Ideal S1x64x128 .f32)
    (s6 : Vec Ideal S4360x64 .f32) (e6 : Vec Ideal S1x64x128 .f32) (p : Fin 4360) (j : Fin 128) :
    (k0_pay7 (F := Ideal) A B s2 e2 s3 e3 s4 e4 s5 e5 s6 e6 (ix2 p j) : EReal) = A (ix2 p j) + B (ix2 p j)
      + (∑ m : Fin 64, s2 (ix2 p m) * e2 (ix3 0 m j)) + (∑ m : Fin 64, s3 (ix2 p m) * e3 (ix3 0 m j))
      + (∑ m : Fin 64, s4 (ix2 p m) * e4 (ix3 0 m j)) + (∑ m : Fin 64, s5 (ix2 p m) * e5 (ix3 0 m j))
      + (∑ m : Fin 64, s6 (ix2 p m) * e6 (ix3 0 m j)) := by
  pointwise [k0_pay7]

theorem pay1_at (A : FVec Ideal S4360x128 .f32) (s7 : Vec Ideal S4360x64 .f32) (e7 : Vec Ideal S1x64x128 .f32) (s8 : Vec Ideal S4360x64 .f32) (e8 : Vec Ideal S1x64x128 .f32)
    (g : Vec Ideal S128x128 .f32) (u : Fin 1) (p : Fin 4360) (j : Fin 128) (L : Fin 128 → EReal)
    (hL : ∀ j, A (ix2 p j) + (∑ m : Fin 64, s7 (ix2 p m) * e7 (ix3 0 m j)) + (∑ m : Fin 64, s8 (ix2 p m) * e8 (ix3 0 m j)) = L j) :
    (k0_pay1 (F := Ideal) A s7 e7 s8 e8 g (ix3 u p j) : EReal)
      = Ideal.div (Ideal.exp (min (L j) (Ideal.ofBits .f32 0x42700000#32))) (∑ i : Fin 128, Ideal.exp (min (L i) (Ideal.ofBits .f32 0x42700000#32)) * g (ix2 i j)) := by
  pointwise [k0_pay1, hL]

/-- Row `r` of the scratch: the compressed rows from row 72 on, zeros on either side. -/
noncomputable def srow (x0 : Vec Ideal S1x4360x129 .f32) (x1 : Vec Ideal S129x64 .f32) (r : ℕ) (m : Fin 64) : EReal :=
  if h : 72 ≤ r ∧ r < 4432 then ∑ k : Fin 129, x0 (ix3 0 ⟨r - 72, by omega⟩ k) * x1 (ix2 k m) else 0

theorem emb_at (o n : ℕ) (h : o + n ≤ 4504) (inb : ∀ a, (![o, 0] : Fin 2 → ℕ) a + (![n, 64] : Fin 2 → ℕ) a ≤ (![4504, 64] : Fin 2 → ℕ) a) (x : Fin n) (m : Fin 64) :
    (Rect.unit (s := S4504x64) ![o, 0] ![n, 64] inb).emb (ix2 x m) = ix2 ⟨o + x, by omega⟩ m := by
  funext a
  apply Fin.ext
  fin_cases a <;> simp [Rect.emb, Rect.unit]

/-- A load of the scratch at row offset `o`, at an index. -/
theorem scr_at (x0 : Vec Ideal S1x4360x129 .f32) (x1 : Vec Ideal S129x64 .f32) (o : ℕ) (ho : o < 145)
    (inb : ∀ a, (![o, 0] : Fin 2 → ℕ) a + S4360x64.size a ≤ S4504x64.size a) (p : Fin 4360) (m : Fin 64) :
    ((View.whole cc0_scoped0).readCov (Val := Elt Ideal)
      [⟨Rect.unit (s := S4504x64) ![4432, 0] S72x64.size inb_S4504x64_S72x64_4432_0, k0_pay4 (F := Ideal)⟩,
       ⟨Rect.unit (s := S4504x64) ![72, 0] S4360x64.size inb_S4504x64_S4360x64_72_0, k0_pay3 (F := Ideal) x0 x1⟩,
       ⟨Rect.unit (s := S4504x64) ![0, 0] S72x64.size inb_S4504x64_S72x64_0_0, k0_pay2 (F := Ideal)⟩]
      (Rect.unit (s := S4504x64) ![o, 0] S4360x64.size inb).toLoadRect (ix2 p m) : EReal) = srow x0 x1 (o + p) m := by
  rw [View.readCov_eq_canon']
  have hG := View.canon_append_of_piecesOf (Val := Elt Ideal) (s := S4504x64) (e := .f32) (fun y => srow x0 x1 (y 0 : ℕ) (y 1)) []
    [⟨Rect.unit (s := S4504x64) ![4432, 0] S72x64.size inb_S4504x64_S72x64_4432_0, k0_pay4 (F := Ideal)⟩,
       ⟨Rect.unit (s := S4504x64) ![72, 0] S4360x64.size inb_S4504x64_S4360x64_72_0, k0_pay3 (F := Ideal) x0 x1⟩,
       ⟨Rect.unit (s := S4504x64) ![0, 0] S72x64.size inb_S4504x64_S72x64_0_0, k0_pay2 (F := Ideal)⟩]
    ⟨fun x => ?_, fun x => ?_, fun x => ?_, trivial⟩ (ix2 ⟨o + p, by omega⟩ m) ?_
  · refine Eq.trans (congrArg _ ?_) hG
    funext a
    apply Fin.ext
    fin_cases a <;> simp [LoadRect.idx, Rect.unit, Rect.toLoadRect]
  · idx_vars x
    rw [emb_at 4432 72 (by omega)]
    have e : k0_pay4 (F := Ideal) (ix2 x0 x1) = (0 : EReal) := by pointwise [k0_pay4]
    rw [e]
    show (0 : EReal) = srow _ _ (4432 + x0) x1
    unfold srow
    rw [dif_neg (by omega)]
  · idx_vars x
    rw [emb_at 72 4360 (by omega), pay3_at]
    unfold srow
    refine Eq.trans ?_ (dif_pos (by rw [ix2_0]; try dsimp only; omega)).symm
    refine Finset.sum_congr rfl fun k _ => ?_
    congr 3
    apply Fin.ext
    exact (Nat.add_sub_cancel_left ..).symm
  · idx_vars x
    rw [emb_at 0 72 (by omega)]
    have e : k0_pay2 (F := Ideal) (ix2 x0 x1) = (0 : EReal) := by pointwise [k0_pay2]
    rw [e]
    show (0 : EReal) = srow _ _ (0 + x0) x1
    unfold srow
    rw [dif_neg (by omega)]
  · simp only [List.mem_cons, exists_eq_or_imp, List.not_mem_nil, false_and, exists_false, or_false, exists_eq_left, Rect.mem_set_unit]
    rw [Fin.forall_fin_two, Fin.forall_fin_two, Fin.forall_fin_two]
    simp
    omega

/-- The logits of the weights call at an index. -/
noncomputable def klog (x0 : Vec Ideal S1x4360x129 .f32) (x1 : Vec Ideal S129x64 .f32) (x2 : Vec Ideal S9x64x128 .f32) (x3 : Vec Ideal S1x128 .f32)
    (p : Fin 4360) (j : Fin 128) : EReal :=
  x3 (ix2 0 j) + ∑ a : Fin 3, ∑ b : Fin 3, ∑ m : Fin 64, srow x0 x1 (5 + 66 * a + b + p) m * x2 (ix3 ⟨3 * a + b, by omega⟩ m j)

variable (V : (c : Dev nD) → (b : Ref sig .tc) → Buf (Elt Ideal) ((c.tc : Thread nD τ).loc b))

set_option maxHeartbeats 4000000 in
theorem block (c : Dev nD) (t : Fin cfg0.N) (u : Fin 1) (p : Fin 4360) (j : Fin 128) :
    (outsAt0 V c t (ix3 u p j) : EReal) =
      Ideal.div (Ideal.exp (min (klog (iblk0 V c 0 t) (iblk0 V c 1 t) (iblk0 V c 2 t) (iblk0 V c 3 t) p j) (Ideal.ofBits .f32 0x42700000#32)))
        (∑ i : Fin 128, Ideal.exp (min (klog (iblk0 V c 0 t) (iblk0 V c 1 t) (iblk0 V c 2 t) (iblk0 V c 3 t) p i) (Ideal.ofBits .f32 0x42700000#32))
          * ((iblk0 V c 4 t : Vec Ideal S128x128 .f32) (ix2 i j))) := by
  unfold outsAt0
  generalize (iblk0 V c 0 t) = x0
  generalize (iblk0 V c 1 t) = x1
  generalize (iblk0 V c 2 t) = x2
  generalize (iblk0 V c 3 t) = x3
  generalize (iblk0 V c 4 t) = x4
  frame_out
  refine pay1_at _ _ _ _ _ _ u p j _ fun i => ?_
  rw [pay7_at, pay5_at, pay6_at]
  simp only [scr_at x0 x1 5 (by omega), scr_at x0 x1 6 (by omega), scr_at x0 x1 7 (by omega), scr_at x0 x1 71 (by omega), scr_at x0 x1 72 (by omega),
    scr_at x0 x1 73 (by omega), scr_at x0 x1 137 (by omega), scr_at x0 x1 138 (by omega), scr_at x0 x1 139 (by omega)]
  pointwise [klog, Fin.sum_univ_three]
  simp only [add_assoc]

end Cert.Weights
-- ==== Proof.Reassemble.lean ====
module
public import proofs.«01_k».proof.Proof.Gen.KernelIdeal.Frame
public import Idealize.ShloMosaic.Lib.Pointwise
public import Idealize.ShloMosaic.Lib.Pipeline.ValueKit
@[expose] public section
open Idealize Idealize.ShloMosaic Cert.KernelIdeal Cert.KernelIdeal.Gen
/-! The reassembly call: what one of its blocks writes, at an index, in terms of its three operands. -/

namespace Cert.Reassemble
set_option maxRecDepth 16384

/-- Row `r` of one channel of a map framed by two zero rows on either side. -/
noncomputable def xrow (x : Vec Ideal S1x128x64x64 .f32) (c : Fin 128) (r : ℕ) (w : Fin 64) : EReal :=
  if h : 2 ≤ r ∧ r < 66 then x (ix4 0 c ⟨r - 2, by omega⟩ w) else 0

theorem xp_at (x0 : Vec Ideal S1x128x64x64 .f32) (c : Fin 128) (r : Fin 68) (w : Fin 64) :
    k1_pay2 (View.ld x0 r1_0) (ix3 c r w) = xrow x0 c r w := by
  pointwise [k1_pay2, xrow]
  by_cases h1 : (r : ℕ) < 2
  · rw [dif_pos h1, dif_neg (by omega)]
  · by_cases h2 : (r : ℕ) - 2 < 64
    · rw [dif_neg h1, dif_pos h2, dif_pos (by omega)]
    · rw [dif_neg h1, dif_neg h2, dif_neg (by omega)]

/-- One accumulation step at an index: the running block, plus the one-hot dot product of a row times a weight. -/
theorem step_at (A : FVec Ideal S128x8x128 .f32) (xk : FVec Ideal S1024x64 .f32) (g : FVec Ideal S1x64x128 .f32)
    (v : FVec Ideal S1x1x1x8x128 .f32) (c : Fin 128) (i : Fin 8) (ow : Fin 128) :
    addf A (mulf (shapeCast S128x8x128 (matmul dot_S1024x64_S64x128_S1024x128_1_0_0_1_n_n none xk
        (shapeCast S64x128 g shapeCasts_S1x64x128_S64x128 : FVec Ideal S64x128 .f32) (constant S1024x128 .f32 0x00000000#32)) shapeCasts_S1024x128_S128x8x128)
      (broadcastTo S128x8x128 (shapeCast S1x8x128 (shapeCast S8x128 v shapeCasts_S1x1x1x8x128_S8x128) shapeCasts_S8x128_S1x8x128)
        broadcasts_S1x8x128_S128x8x128)) (ix3 c i ow)
      = A (ix3 c i ow) + (∑ k : Fin 64, xk (ix2 ⟨c * 8 + i, by omega⟩ k) * g (ix3 0 k ow)) * v (ix5 0 0 0 i ow) := by
  pointwise

/-- The two finished row sets, interleaved row by row. -/
theorem merge_at (A B : FVec Ideal S128x8x128 .f32) (u : Fin 1) (c : Fin 128) (y : Fin 16) (ow : Fin 128) :
    shapeCast S1x128x16x128 (shapeCast S128x16x128 (concatenate S128x8x2x128 2
      [⟨S128x8x1x128, shapeCast S128x8x1x128 A shapeCasts_S128x8x128_S128x8x1x128⟩,
       ⟨S128x8x1x128, shapeCast S128x8x1x128 B shapeCasts_S128x8x128_S128x8x1x128⟩]
      concatenates_S128x8x1x128_S128x8x1x128_S128x8x2x128_d2) shapeCasts_S128x8x2x128_S128x16x128) shapeCasts_S128x16x128_S1x128x16x128
      (ix4 u c y ow)
      = if _ : (y : ℕ) % 2 < 1 then A (ix3 c ⟨y / 2, by omega⟩ ow) else B (ix3 c ⟨y / 2, by omega⟩ ow) := by
  pointwise

/-- A row of the framed map, dotted with a column of the one-hot table `kj`. -/
noncomputable def dotx (x0 : Vec Ideal S1x128x64x64 .f32) (x2 : Vec Ideal S5x64x128 .f32) (c : Fin 128) (r : ℕ) (kj : Fin 5) (ow : Fin 128) : EReal :=
  ∑ k : Fin 64, xrow x0 c r k * x2 (ix3 kj k ow)

/-- The reassembled block at an index: twenty-five dotted rows, each times its weight. -/
noncomputable def rblk (x0 : Vec Ideal S1x128x64x64 .f32) (x1 : Vec Ideal S1x2x32x64x128 .f32) (x2 : Vec Ideal S5x64x128 .f32)
    (c oh ow : Fin 128) : EReal :=
  ∑ ki : Fin 5, ∑ kj : Fin 5, dotx x0 x2 c (ki + oh / 2) kj ow * x1 (ix5 0 ⟨oh % 2, by omega⟩ ⟨5 * ki + kj, by omega⟩ ⟨oh / 2, by omega⟩ ow)

set_option maxHeartbeats 4000000 in
/-- What one block of the reassembly call writes, at an index. -/
theorem block (x0 : FVec Ideal S1x128x64x64 .f32) (x1 : FVec Ideal S1x2x32x64x128 .f32) (x2 : FVec Ideal S5x64x128 .f32)
    (y : S1x128x128x128.Idx) : (out1_3 (F := Ideal) x0 x1 x2 y : EReal) = rblk x0 x1 x2 (y 1) (y 2) (y 3) := by
  unfold_out out1_3
  canon_tiles q h
  all_goals
    idx_vars y
    idx_vars q
    have hP := xp_at x0
    try simp only [k1_pay3, k1_pay4, k1_pay5, k1_pay6, k1_pay7, k1_pay8]
    generalize (k1_pay2 (F := Ideal) (View.ld x0 r1_0)) = P at hP ⊢
    unfold_payloads
    dsimp only
    simp only [merge_at, step_at]
    obtain rfl : y1 = q1 := Fin.ext h1
    obtain rfl : y3 = q3 := Fin.ext h3
    have e1 : ((y1 : ℕ) * 8 + (q2 : ℕ) / 2) % 8 = q2 / 2 := by omega
    have e2 : (y2 : ℕ) / 2 = 8 * ((y2 : ℕ) / 16) + q2 / 2 := by omega
    first
      | rw [show (y2 : ℕ) / 16 = 0 by omega] at e2
      | rw [show (y2 : ℕ) / 16 = 1 by omega] at e2
      | rw [show (y2 : ℕ) / 16 = 2 by omega] at e2
      | rw [show (y2 : ℕ) / 16 = 3 by omega] at e2
      | rw [show (y2 : ℕ) / 16 = 4 by omega] at e2
      | rw [show (y2 : ℕ) / 16 = 5 by omega] at e2
      | rw [show (y2 : ℕ) / 16 = 6 by omega] at e2
      | rw [show (y2 : ℕ) / 16 = 7 by omega] at e2
    have v3 : ((3 : Fin 5) : ℕ) = 3 := rfl
    have v4 : ((4 : Fin 5) : ℕ) = 4 := rfl
    split
    · have e3 : (y2 : ℕ) % 2 = 0 := by omega
      pointwise [hP]
      try simp (discharger := omega) only [dif_pos]
      simp only [rblk, dotx, Fin.sum_univ_five, e1, e2, e3, Fin.val_zero, Fin.val_one, Fin.val_two, v3, v4]
      simp only [← add_assoc, Nat.reduceMul, Nat.reduceAdd, Nat.add_zero, Nat.zero_add, ← Nat.add_assoc]
      rfl
    · have e3 : (y2 : ℕ) % 2 = 1 := by omega
      pointwise [hP]
      try simp (discharger := omega) only [dif_pos]
      simp only [rblk, dotx, Fin.sum_univ_five, e1, e2, e3, Fin.val_zero, Fin.val_one, Fin.val_two, v3, v4]
      simp only [← add_assoc, Nat.reduceMul, Nat.reduceAdd, Nat.add_zero, Nat.zero_add, ← Nat.add_assoc]
      rfl

end Cert.Reassemble
-- ==== Proof.Arr.lean ====
module

public import proofs.«01_k».proof.Proof.Weights
public import proofs.«01_k».proof.Proof.Reassemble
public import Idealize.ShloMosaic.Lib.Pipeline.ValueKit

/-! The two calls' result arrays, at an index, from the arrays each call is entered with. -/

@[expose] public section

set_option maxRecDepth 16384

noncomputable section

namespace Cert.Arr

open Cert.KernelIdeal Cert.KernelIdeal.Gen Idealize.ShloMosaic Idealize.ShloMosaic.TcCoe

variable (V : (c : Dev nD) → (b : Ref sig .tc) → Buf (Elt Ideal) ((c.tc : Thread nD τ).loc b))

theorem idx0 : ∀ t : Fin cfg0.N, win0_0.index t = ![t.val, 0, 0] ∧ win0_1.index t = ![0, 0] ∧ win0_2.index t = ![0, 0, 0]
    ∧ win0_3.index t = ![0, 0] ∧ win0_4.index t = ![0, 0] ∧ win0_5.index t = ![t.val, 0, 0] :=
  (by decide +kernel : ∀ t : Fin grid0.N, _)

theorem idx1 : ∀ t : Fin cfg1.N, win1_0.index t = ![t.val, 0, 0, 0] ∧ win1_1.index t = ![t.val, 0, 0, 0, 0]
    ∧ win1_2.index t = ![0, 0, 0] ∧ win1_3.index t = ![t.val, 0, 0, 0] :=
  (by decide +kernel : ∀ t : Fin grid1.N, _)

/-- The reassembly call's result, from its three operands. -/
def G1 (X : FVec Ideal S8x128x64x64 .f32) (Z : FVec Ideal S8x2x32x64x128 .f32) (U : FVec Ideal S5x64x128 .f32) : FVec Ideal S8x128x128x128 .f32 :=
  fun i => Reassemble.rblk (fun j => X (ix4 (i 0) (j 1) (j 2) (j 3))) (fun j => Z (ix5 (i 0) (j 1) (j 2) (j 3) (j 4))) U (i 1) (i 2) (i 3)

theorem rblk_congr {x0 x0' : FVec Ideal S1x128x64x64 .f32} {x1 x1' : FVec Ideal S1x2x32x64x128 .f32} {x2 x2' : FVec Ideal S5x64x128 .f32}
    {a a' b b' d d' : Fin 128} (h0 : x0 = x0') (h1 : x1 = x1') (h2 : x2 = x2') (ha : a = a') (hb : b = b') (hd : d = d') :
    Reassemble.rblk x0 x1 x2 a b d = Reassemble.rblk x0' x1' x2' a' b' d' := by
  rw [h0, h1, h2, ha, hb, hd]

set_option maxHeartbeats 2000000 in
theorem final1 (c : Dev nD) : (dat1 V c).arrAt 3 cfg1.N = G1 (V c main_arg0) (V c main_v25) (V c main_cst_0) := by
  refine (dat1 V c).arrAt_eq_of_covers 3 _ (by decide +kernel) fun t _ y => ?_
  blk_simp
  rw [after1_3]
  refine (Reassemble.block (iblk1 V c 0 t) (iblk1 V c 1 t) (iblk1 V c 2 t) y).trans ?_
  have h0 : (iblk1 V c 0 t : FVec Ideal S1x128x64x64 .f32) = fun j => (V c main_arg0 : FVec Ideal S8x128x64x64 .f32) (ix4 ((((cfg1.win 3).blk t).view.emb y) 0) (j 1) (j 2) (j 3)) := by
    funext j
    blk_ext [iblk1, idx1 t]
  have h1 : (iblk1 V c 1 t : FVec Ideal S1x2x32x64x128 .f32) = fun j => (V c main_v25 : FVec Ideal S8x2x32x64x128 .f32) (ix5 ((((cfg1.win 3).blk t).view.emb y) 0) (j 1) (j 2) (j 3) (j 4)) := by
    funext j
    blk_ext [iblk1, idx1 t]
  have h2 : (iblk1 V c 2 t : FVec Ideal S5x64x128 .f32) = V c main_cst_0 := by
    funext j
    blk_ext [iblk1, idx1 t]
  have e1 : (((cfg1.win 3).blk t).view.emb y) 1 = y 1 := by
    apply Fin.ext
    blk_simp [idx1 t]
  have e2 : (((cfg1.win 3).blk t).view.emb y) 2 = y 2 := by
    apply Fin.ext
    blk_simp [idx1 t]
  have e3 : (((cfg1.win 3).blk t).view.emb y) 3 = y 3 := by
    apply Fin.ext
    blk_simp [idx1 t]
  exact rblk_congr h0 h1 h2 e1.symm e2.symm e3.symm

/-- One element of the weights call's result, from one image of its first operand and its other four. -/
def wcell (x0 : FVec Ideal S1x4360x129 .f32) (x1 : FVec Ideal S129x64 .f32) (x2 : FVec Ideal S9x64x128 .f32) (x3 : FVec Ideal S1x128 .f32)
    (x4 : FVec Ideal S128x128 .f32) (p : Fin 4360) (j : Fin 128) : EReal :=
  Ideal.div (Ideal.exp (min (Weights.klog x0 x1 x2 x3 p j) (Ideal.ofBits .f32 0x42700000#32)))
    (∑ i : Fin 128, Ideal.exp (min (Weights.klog x0 x1 x2 x3 p i) (Ideal.ofBits .f32 0x42700000#32)) * x4 (ix2 i j))

/-- The weights call's result, from its five operands. -/
def G0 (x0 : FVec Ideal S8x4360x129 .f32) (x1 : FVec Ideal S129x64 .f32) (x2 : FVec Ideal S9x64x128 .f32) (x3 : FVec Ideal S1x128 .f32)
    (x4 : FVec Ideal S128x128 .f32) : FVec Ideal S8x4360x128 .f32 :=
  fun i => wcell (fun j => x0 (ix3 (i 0) (j 1) (j 2))) x1 x2 x3 x4 (i 1) (i 2)

set_option maxHeartbeats 2000000 in
theorem final0 (c : Dev nD) : (dat0 V c).arrAt 5 cfg0.N = G0 (V c main_v6) (V c main_v10) (V c main_v14) (V c main_v18) (V c main_cst) := by
  refine (dat0 V c).arrAt_eq_of_covers 5 _ (by decide +kernel) fun t _ y => ?_
  blk_simp
  rw [after0_5]
  have h0 : (iblk0 V c 0 t : FVec Ideal S1x4360x129 .f32) = fun j => (V c main_v6 : FVec Ideal S8x4360x129 .f32) (ix3 ((((cfg0.win 5).blk t).view.emb y) 0) (j 1) (j 2)) := by
    funext j
    blk_ext [iblk0, idx0 t]
  have h1 : (iblk0 V c 1 t : FVec Ideal S129x64 .f32) = V c main_v10 := by
    funext j
    blk_ext [iblk0, idx0 t]
  have h2 : (iblk0 V c 2 t : FVec Ideal S9x64x128 .f32) = V c main_v14 := by
    funext j
    blk_ext [iblk0, idx0 t]
  have h3 : (iblk0 V c 3 t : FVec Ideal S1x128 .f32) = V c main_v18 := by
    funext j
    blk_ext [iblk0, idx0 t]
  have h4 : (iblk0 V c 4 t : FVec Ideal S128x128 .f32) = V c main_cst := by
    funext j
    blk_ext [iblk0, idx0 t]
  have e1 : (((cfg0.win 5).blk t).view.emb y) 1 = y 1 := by
    apply Fin.ext
    blk_simp [idx0 t]
  have e2 : (((cfg0.win 5).blk t).view.emb y) 2 = y 2 := by
    apply Fin.ext
    blk_simp [idx0 t]
  have hb := Weights.block V c t (y 0) (y 1) (y 2)
  rw [h0, h1, h2, h3, h4] at hb
  have ey : y = ix3 (y 0) (y 1) (y 2) := by blk_ext
  refine (congrArg (outsAt0 V c t) ey).trans (Eq.trans (α := EReal) hb ?_)
  unfold G0
  rw [e1, e2]
  rfl

end Cert.Arr
-- ==== Proof.Carafe.lean ====
module

public import Idealize.ShloMosaic.PureOps.Ideal

/-! The mathematics of the kernel, over the extended reals: the compressed map framed by a ring of zeros, the encoder's
logits, the softmax over the 25 taps of an output pixel, and the weighted sum of the 25 shifted input pixels. The one
law: the softmax with the largest logit subtracted equals the softmax without, when no logit is above a real bound. -/

@[expose] public section

namespace Cert.Carafe

open Idealize.ShloMosaic

/-- The compressed map of image `b`, channel `m`, at row `r` and column `c` of the map framed by one ring of zeros. -/
noncomputable def comp (X : Fin 8 → Fin 128 → Fin 64 → Fin 64 → EReal) (W : Fin 64 → Fin 128 → EReal) (B : Fin 64 → EReal)
    (b : Fin 8) (m : Fin 64) (r c : ℕ) : EReal :=
  if h : (1 ≤ r ∧ r < 65) ∧ (1 ≤ c ∧ c < 65) then (∑ k : Fin 128, W m k * X b k ⟨r - 1, by omega⟩ ⟨c - 1, by omega⟩) + B m else 0

/-- A logit: the 3x3 correlation of the framed map with one encoder filter, plus its bias. -/
noncomputable def logit (P : Fin 64 → ℕ → ℕ → EReal) (E : Fin 100 → Fin 64 → Fin 3 → Fin 3 → EReal) (D : Fin 100 → EReal)
    (o : Fin 100) (h w : ℕ) : EReal :=
  (∑ i : Fin 3, ∑ j : Fin 3, ∑ m : Fin 64, E o m i j * P m (i + h) (j + w)) + D o

/-- The filter that an output pixel's tap `t` takes its logit from. -/
def lane (oh ow : Fin 128) (t : Fin 25) : Fin 100 := ⟨4 * t + 2 * (oh % 2) + ow % 2, by omega⟩

/-- The softmax, without a shift. -/
noncomputable def soft {n : ℕ} (l : Fin n → EReal) (t : Fin n) : EReal :=
  Ideal.div (Ideal.exp (l t)) (∑ s, Ideal.exp (l s))

/-- The softmax, shifted by the largest entry. -/
noncomputable def softMax {n : ℕ} (l : Fin n → EReal) (t : Fin n) : EReal :=
  Ideal.div (Ideal.exp (l t - Finset.univ.sup l)) (∑ s, Ideal.exp (l s - Finset.univ.sup l))

/-- An input pixel, of the input framed by two rings of zeros. -/
noncomputable def xq (X : Fin 8 → Fin 128 → Fin 64 → Fin 64 → EReal) (b : Fin 8) (c : Fin 128) (r w : ℕ) : EReal :=
  if h : (2 ≤ r ∧ r < 66) ∧ (2 ≤ w ∧ w < 66) then X b c ⟨r - 2, by omega⟩ ⟨w - 2, by omega⟩ else 0

/-- A quotient of reals with a positive divisor. -/
theorem div_coe (a A : ℝ) (hA : 0 < A) : Ideal.div (a : EReal) (A : EReal) = ((a / A : ℝ) : EReal) := by
  unfold Ideal.div
  rw [if_neg (by exact_mod_cast hA.ne'), ← EReal.coe_inv, ← EReal.coe_mul, div_eq_mul_inv]

/-- The exponential of an entry that is not `⊤`, as a real. -/
theorem exp_real (x : EReal) (hx : x ≠ ⊤) : ∃ a : ℝ, 0 ≤ a ∧ (x ≠ ⊥ → 0 < a) ∧ Ideal.exp x = (a : EReal)
    ∧ ∀ μ : ℝ, Ideal.exp (x - (μ : EReal)) = ((a * Real.exp (-μ) : ℝ) : EReal) := by
  induction x using EReal.rec with
  | bot => exact ⟨0, le_rfl, fun h => absurd rfl h, rfl, fun μ => by
    rw [EReal.bot_sub, zero_mul]
    rfl⟩
  | top => exact absurd rfl hx
  | coe r =>
    refine ⟨Real.exp r, (Real.exp_pos r).le, fun _ => Real.exp_pos r, rfl, fun μ => ?_⟩
    rw [← EReal.coe_sub, ← Real.exp_add, ← sub_eq_add_neg]
    rfl

/-- The shift by the largest entry does not change the softmax of entries bounded by a real. -/
theorem softMax_eq {n : ℕ} (l : Fin n → EReal) (K : ℝ) (h : ∀ t, l t ≤ (K : EReal)) (t : Fin n) : softMax l t = soft l t := by
  have htop : ∀ s, l s ≠ ⊤ := fun s hs => by
    have := h s
    rw [hs, top_le_iff] at this
    exact EReal.coe_ne_top K this
  by_cases hb : ∀ s, l s = ⊥
  · have hs : Finset.univ.sup l = ⊥ := by
      rw [Finset.sup_eq_bot_iff]
      exact fun s _ => hb s
    unfold softMax soft
    rw [hs]
    simp only [hb, EReal.bot_sub]
  · obtain ⟨s₀, hs₀⟩ := not_forall.1 hb
    have hM : Finset.univ.sup l ≤ (K : EReal) := Finset.sup_le fun s _ => h s
    have hM₀ : l s₀ ≤ Finset.univ.sup l := Finset.le_sup (f := l) (Finset.mem_univ s₀)
    obtain ⟨μ, hμ⟩ : ∃ μ : ℝ, Finset.univ.sup l = (μ : EReal) := by
      induction hx : Finset.univ.sup l using EReal.rec with
      | bot => rw [hx, le_bot_iff] at hM₀; exact absurd hM₀ hs₀
      | top => rw [hx, top_le_iff] at hM; exact absurd hM (EReal.coe_ne_top K)
      | coe r => exact ⟨r, rfl⟩
    choose a ha0 hap ha hs using fun s => exp_real (l s) (htop s)
    have hA : 0 < ∑ s, a s := Finset.sum_pos' (fun s _ => ha0 s) ⟨s₀, Finset.mem_univ _, hap s₀ hs₀⟩
    unfold softMax soft
    rw [hμ]
    simp only [hs, ha]
    have cs : ∀ f : Fin n → ℝ, ∑ s, (f s : EReal) = ((∑ s, f s : ℝ) : EReal) := fun f => by
      induction (Finset.univ : Finset (Fin n)) using Finset.induction_on with
      | empty => simp
      | insert x u hx ih => rw [Finset.sum_insert hx, Finset.sum_insert hx, ih, EReal.coe_add]
    rw [cs, cs, ← Finset.sum_mul, div_coe _ _ (mul_pos hA (Real.exp_pos _)), div_coe _ _ hA,
      mul_div_mul_right _ _ (Real.exp_pos _).ne']

end Cert.Carafe
-- ==== Proof.KVal.lean ====
module

public import proofs.«01_k».proof.Proof.Arr
public import proofs.«01_k».proof.Proof.Carafe

/-! The two calls' results as mathematics: the weights call's elements are the softmax of the logits, and the reassembly
call's one-hot products pick shifted pixels. -/

@[expose] public section

set_option maxRecDepth 16384

noncomputable section

namespace Cert.KVal

open Cert.KernelIdeal Cert.KernelIdeal.Gen Idealize.ShloMosaic Cert.Carafe Cert.Arr Cert.Weights Cert.Reassemble

/-- A sum over 25 taps, by rows of five. -/
theorem sum25 (f : Fin 25 → EReal) : ∑ t : Fin 25, f t = ∑ i : Fin 5, ∑ j : Fin 5, f ⟨5 * i + j, by omega⟩ := by
  rw [← Fintype.sum_prod_type' (f := fun (i j : Fin 5) => f ⟨5 * i + j, by omega⟩)]
  refine (Fintype.sum_equiv (finProdFinEquiv (m := 5) (n := 5)) _ _ fun x => ?_).symm
  refine congrArg f (Fin.ext ?_)
  show 5 * (x.1 : ℕ) + x.2 = x.2 + 5 * x.1
  omega

/-- A sum over 128 lanes, by groups of 32. -/
theorem sum128 (f : Fin 128 → EReal) : ∑ i : Fin 128, f i = ∑ g : Fin 4, ∑ s : Fin 32, f ⟨32 * g + s, by omega⟩ := by
  rw [← Fintype.sum_prod_type' (f := fun (g : Fin 4) (s : Fin 32) => f ⟨32 * g + s, by omega⟩)]
  refine (Fintype.sum_equiv (finProdFinEquiv (m := 4) (n := 32)) _ _ fun x => ?_).symm
  refine congrArg f (Fin.ext ?_)
  show 32 * (x.1 : ℕ) + x.2 = x.2 + 32 * x.1
  omega

/-- A sum over 32 lanes whose last seven are zero. -/
theorem sum32 (f : Fin 32 → EReal) (h : ∀ s : Fin 32, 25 ≤ (s : ℕ) → f s = 0) : ∑ s : Fin 32, f s = ∑ s : Fin 25, f ⟨s, by omega⟩ := by
  have e : ∑ s : Fin 32, f s = ∑ s : Fin (25 + 7), f s := rfl
  rw [e, Fin.sum_univ_add]
  have z : ∑ i : Fin 7, f (Fin.natAdd 25 i) = 0 := Finset.sum_eq_zero fun i _ => h _ (by simp)
  rw [z, add_zero]
  rfl

section Weights

variable (x0 : FVec Ideal S1x4360x129 .f32) (x1 : FVec Ideal S129x64 .f32) (x2 : FVec Ideal S9x64x128 .f32) (x3 : FVec Ideal S1x128 .f32)
  (x4 : FVec Ideal S128x128 .f32) (P : Fin 64 → ℕ → ℕ → EReal) (E : Fin 100 → Fin 64 → Fin 3 → Fin 3 → EReal) (D : Fin 100 → EReal)

/-- The logits of an interior pixel, at a lane that holds a tap. -/
theorem klog_at (hS : ∀ (q : ℕ) (hq : q < 4356) (m : Fin 64), (∑ k : Fin 129, (x0 (ix3 0 ⟨q, by omega⟩ k) : EReal) * x1 (ix2 k m)) = P m (q / 66) (q % 66))
    (hE : ∀ (a b : Fin 3) (m : Fin 64) (g : Fin 4) (s : Fin 25), (x2 (ix3 ⟨3 * a + b, by omega⟩ m ⟨32 * g + s, by omega⟩) : EReal) = E ⟨4 * s + g, by omega⟩ m a b)
    (hD : ∀ (g : Fin 4) (s : Fin 25), (x3 (ix2 0 ⟨32 * g + s, by omega⟩) : EReal) = D ⟨4 * s + g, by omega⟩)
    (h w : Fin 64) (g : Fin 4) (s : Fin 25) :
    klog x0 x1 x2 x3 ⟨66 * (h + 1) + (w + 1), by omega⟩ ⟨32 * g + s, by omega⟩ = logit P E D ⟨4 * s + g, by omega⟩ h w := by
  unfold klog logit
  rw [hD, add_comm]
  refine congrArg (· + _) ?_
  refine Finset.sum_congr rfl fun a _ => Finset.sum_congr rfl fun b _ => Finset.sum_congr rfl fun m _ => ?_
  rw [hE, mul_comm]
  refine congrArg (_ * ·) ?_
  unfold srow
  rw [dif_pos (by dsimp only; omega)]
  refine Eq.trans ?_ ((hS (66 * (a + h) + (b + w)) (by omega) m).trans ?_)
  · refine Finset.sum_congr rfl fun k _ => ?_
    congr 3
    apply Fin.ext
    dsimp only
    omega
  · congr 1 <;> omega

/-- The logits at a padding lane are `⊥`. -/
theorem klog_bot (hD : ∀ (g : Fin 4) (s : Fin 32), 25 ≤ (s : ℕ) → (x3 (ix2 0 ⟨32 * g + s, by omega⟩) : EReal) = ⊥)
    (p : Fin 4360) (g : Fin 4) (s : Fin 32) (hs : 25 ≤ (s : ℕ)) : klog x0 x1 x2 x3 p ⟨32 * g + s, by omega⟩ = ⊥ := by
  unfold klog
  rw [hD g s hs, EReal.bot_add]

/-- An element of the weights call's result: the softmax of the 25 logits of its output pixel. -/
theorem wcell_at (hS : ∀ (q : ℕ) (hq : q < 4356) (m : Fin 64), (∑ k : Fin 129, (x0 (ix3 0 ⟨q, by omega⟩ k) : EReal) * x1 (ix2 k m)) = P m (q / 66) (q % 66))
    (hE : ∀ (a b : Fin 3) (m : Fin 64) (g : Fin 4) (s : Fin 25), (x2 (ix3 ⟨3 * a + b, by omega⟩ m ⟨32 * g + s, by omega⟩) : EReal) = E ⟨4 * s + g, by omega⟩ m a b)
    (hD : ∀ (g : Fin 4) (s : Fin 25), (x3 (ix2 0 ⟨32 * g + s, by omega⟩) : EReal) = D ⟨4 * s + g, by omega⟩)
    (hB : ∀ (g : Fin 4) (s : Fin 32), 25 ≤ (s : ℕ) → (x3 (ix2 0 ⟨32 * g + s, by omega⟩) : EReal) = ⊥)
    (hG : ∀ i j : Fin 128, (x4 (ix2 i j) : EReal) = if (i : ℕ) / 32 = (j : ℕ) / 32 then 1 else 0)
    (hK : ∀ (o : Fin 100) (h w : Fin 64), logit P E D o h w ≤ (Ideal.ofBits .f32 0x42700000#32 : EReal))
    (h w : Fin 64) (g : Fin 4) (t : Fin 25) :
    wcell x0 x1 x2 x3 x4 ⟨66 * (h + 1) + (w + 1), by omega⟩ ⟨32 * g + t, by omega⟩ = soft (fun s : Fin 25 => logit P E D ⟨4 * s + g, by omega⟩ h w) t := by
  have hL : ∀ s : Fin 25, min (klog x0 x1 x2 x3 ⟨66 * (h + 1) + (w + 1), by omega⟩ ⟨32 * g + s, by omega⟩) (Ideal.ofBits .f32 0x42700000#32 : EReal)
      = logit P E D ⟨4 * s + g, by omega⟩ h w := fun s => by
    rw [klog_at x0 x1 x2 x3 P E D hS hE hD]
    exact min_eq_left (hK _ h w)
  have hZ : ∀ s : Fin 32, 25 ≤ (s : ℕ) → Ideal.exp (min (klog x0 x1 x2 x3 ⟨66 * (h + 1) + (w + 1), by omega⟩ ⟨32 * g + s, by omega⟩) (Ideal.ofBits .f32 0x42700000#32 : EReal)) = 0 := fun s hs => by
    rw [klog_bot x0 x1 x2 x3 hB _ g s hs, min_eq_left bot_le]
    rfl
  unfold wcell soft
  rw [hL]
  refine congrArg (Ideal.div _) ?_
  rw [sum128, Finset.sum_eq_single g]
  · rw [sum32]
    · refine Finset.sum_congr rfl fun s _ => ?_
      rw [hL s, hG, if_pos (by dsimp only; omega), mul_one]
    · intro s hs
      rw [hZ s hs, zero_mul]
  · intro g' _ hg
    refine Finset.sum_eq_zero fun s _ => ?_
    have hv : (g' : ℕ) ≠ g := fun e => hg (Fin.ext e)
    rw [hG, if_neg (by dsimp only; omega), mul_zero]
  · exact fun hn => absurd (Finset.mem_univ g) hn

end Weights

section Reassemble

variable (X : FVec Ideal S8x128x64x64 .f32) (U : FVec Ideal S5x64x128 .f32)

/-- A row dotted with a one-hot column is the pixel the column names. -/
theorem dotx_at (hU : ∀ (kj : Fin 5) (k : Fin 64) (ow : Fin 128), (U (ix3 kj k ow) : EReal) = if (k : ℕ) + 2 = ow / 2 + kj then 1 else 0)
    (b : Fin 8) (c : Fin 128) (r : ℕ) (kj : Fin 5) (ow : Fin 128) :
    dotx (fun j => X (ix4 b (j 1) (j 2) (j 3))) U c r kj ow = xq (fun b c h w => X (ix4 b c h w)) b c r (ow / 2 + kj) := by
  unfold dotx xq
  by_cases hw : 2 ≤ (ow / 2 + kj : ℕ) ∧ (ow / 2 + kj : ℕ) < 66
  · rw [Finset.sum_eq_single (⟨ow / 2 + kj - 2, by omega⟩ : Fin 64)]
    · rw [hU, if_pos (by dsimp only; omega), mul_one]
      unfold xrow
      by_cases hr : 2 ≤ r ∧ r < 66
      · rw [dif_pos hr, dif_pos ⟨hr, hw⟩]
        rfl
      · rw [dif_neg hr, dif_neg (fun h => hr h.1)]
    · intro k _ hk
      rw [hU, if_neg (fun e => hk (Fin.ext (by dsimp only; omega))), mul_zero]
    · exact fun hn => absurd (Finset.mem_univ _) hn
  · rw [dif_neg (fun h => hw h.2)]
    refine Finset.sum_eq_zero fun k _ => ?_
    rw [hU, if_neg (by omega), mul_zero]

/-- The reassembly call's result: the weighted sum of the 25 shifted pixels. -/
theorem G1_at (Z : FVec Ideal S8x2x32x64x128 .f32)
    (hU : ∀ (kj : Fin 5) (k : Fin 64) (ow : Fin 128), (U (ix3 kj k ow) : EReal) = if (k : ℕ) + 2 = ow / 2 + kj then 1 else 0)
    (S : Fin 25 → EReal) (b : Fin 8) (c oh ow : Fin 128)
    (hZ : ∀ t : Fin 25, (Z (ix5 b ⟨oh % 2, by omega⟩ ⟨t, by omega⟩ ⟨oh / 2, by omega⟩ ow) : EReal) = S t) :
    (G1 X Z U (ix4 b c oh ow) : EReal) = ∑ t : Fin 25, xq (fun b c h w => X (ix4 b c h w)) b c (oh / 2 + t / 5) (ow / 2 + t % 5) * S t := by
  rw [sum25]
  show (rblk _ _ _ c oh ow : EReal) = _
  unfold rblk
  refine Finset.sum_congr rfl fun i _ => Finset.sum_congr rfl fun j _ => ?_
  have e1 : (5 * i + j : ℕ) / 5 = i := by omega
  have e2 : (5 * i + j : ℕ) % 5 = j := by omega
  dsimp only
  rw [e1, e2, ← hZ, Nat.add_comm (oh / 2 : ℕ)]
  exact congrArg (· * _) (dotx_at X U hU b c _ j ow)

end Reassemble

end Cert.KVal
-- ==== Proof.KHost.lean ====
module

public import proofs.«01_k».proof.Proof.Gen.KernelIdeal.Frame
public import Idealize.ShloMosaic.Lib.Pointwise
public import Idealize.ShloMosaic.Lib.StableHlo.ReadAt

/-! The kernel's host operations, read at an index. -/

@[expose] public section

set_option maxRecDepth 16384

noncomputable section

namespace Cert.KHost

open Cert.KernelIdeal Cert.KernelIdeal.Gen Idealize.ShloMosaic Idealize.ShloMosaic.TcCoe Idealize.ShloMosaic.StableHlo

theorem sitofp_zero : (FloatOps.sitofp (F := Ideal) FTy.f32 0#32 : EReal) = 0 := by
  show (((0#32 : BitVec 32).toInt : ℝ) : EReal) = 0
  simp

theorem one_bits : (Ideal.ofBits .f32 0x3F800000#32 : EReal) = 1 := by
  simp [Ideal.ofBits, Ideal.ieee]
  rw [← EReal.coe_mul]
  norm_num

theorem zero_bits : (Ideal.ofBits .f32 0#32 : EReal) = 0 := by
  simp [Ideal.ofBits, Ideal.ieee]

theorem bot_bits : (Ideal.ofBits .f32 0xFF800000#32 : EReal) = ⊥ := by
  simp [Ideal.ofBits, Ideal.ieee]

/-- A pixel of the framed input, or of the framed ones below it. -/
def xcell (V : Valuation τ sig (Elt Ideal)) (b : Fin 8) (k : Fin 129) (r w : ℕ) : EReal :=
  if h : (1 ≤ r ∧ r < 65) ∧ (1 ≤ w ∧ w < 65) then
    if hk : (k : ℕ) < 128 then (V (Proc.devRef .tc main_arg0) : FVec Ideal S8x128x64x64 .f32) (ix4 b ⟨k, hk⟩ ⟨r - 1, by omega⟩ ⟨w - 1, by omega⟩) else 1
  else 0

set_option maxHeartbeats 1000000 in
/-- The framed input. -/
theorem x0_at (V : Valuation τ sig (Elt Ideal)) (b : Fin 8) (k : Fin 128) (r w : Fin 66) :
    (after hostOps0_1 (after hostOps0 V) (Proc.devRef .tc main_v0) (ix4 b k r w) : EReal) = xcell V b ⟨k, by omega⟩ r w := by
  after_reads_at
  rw [sitofp_zero]
  unfold xcell
  by_cases h : (1 ≤ (r : ℕ) ∧ (r : ℕ) < 65) ∧ (1 ≤ (w : ℕ) ∧ (w : ℕ) < 65)
  · rw [dif_pos (by omega), dif_pos h, dif_pos k.isLt]
  · rw [dif_neg (by omega), dif_neg h]

set_option maxHeartbeats 1000000 in
/-- The framed ones. -/
theorem x2_at (V : Valuation τ sig (Elt Ideal)) (b : Fin 8) (u : Fin 1) (r w : Fin 66) :
    (after hostOps0_3 (after hostOps0_2 V) (Proc.devRef .tc main_v2) (ix4 b u r w) : EReal) = xcell V b 128 r w := by
  after_reads_at
  rw [sitofp_zero]
  unfold xcell
  by_cases h : (1 ≤ (r : ℕ) ∧ (r : ℕ) < 65) ∧ (1 ≤ (w : ℕ) ∧ (w : ℕ) < 65)
  · rw [dif_pos (by omega), dif_pos h, dif_neg (by show ¬ (128 < 128); omega)]
  · rw [dif_neg (by omega), dif_neg h]

set_option maxHeartbeats 1000000 in
/-- The two framed arrays side by side, flattened. -/
theorem x6_at (V : Valuation τ sig (Elt Ideal)) (b : Fin 8) (q : Fin 4360) (k : Fin 129) (hq : (q : ℕ) < 4356) :
    (after hostOps0_5 (after hostOps0_4 V) (Proc.devRef .tc main_v6) (ix3 b q k) : EReal)
      = if h : (k : ℕ) < 128 then V (Proc.devRef .tc main_v0) (ix4 b ⟨k, h⟩ ⟨q / 66, by omega⟩ ⟨q % 66, by omega⟩)
        else V (Proc.devRef .tc main_v2) (ix4 b 0 ⟨q / 66, by omega⟩ ⟨q % 66, by omega⟩) := by
  after_reads_at
  refine (dif_pos hq).trans ?_
  by_cases hk : (k : ℕ) < 128
  · refine ((dif_pos hk).trans ?_).trans (dif_pos hk).symm
    exact congrFun (congrFun (upto_zero _ _) _) _
  · refine ((dif_neg hk).trans ?_).trans (dif_neg hk).symm
    refine (congrFun (congrFun (upto_zero _ _) _) _).trans ?_
    exact congrArg (V (Proc.devRef .tc main_v2)) (congrArg (fun u => ix4 b u _ _) (Subsingleton.elim _ _))

theorem keep0 (V : Valuation τ sig (Elt Ideal)) : after hostOps0_3 (after hostOps0_2 V) (Proc.devRef .tc main_v0) = V (Proc.devRef .tc main_v0) := by
  after_reads_simp

/-- The flattened operand of the weights call. -/
theorem xt_at (V : Valuation τ sig (Elt Ideal)) (b : Fin 8) (q : Fin 4360) (k : Fin 129) (hq : (q : ℕ) < 4356) :
    (after hostOps0_5 (after hostOps0_4 (after hostOps0_3 (after hostOps0_2 (after hostOps0_1 (after hostOps0 V))))) (Proc.devRef .tc main_v6) (ix3 b q k) : EReal)
      = xcell V b k (q / 66) (q % 66) := by
  refine (x6_at _ b q k hq).trans ?_
  by_cases hk : (k : ℕ) < 128
  · rw [dif_pos hk, keep0]
    exact x0_at V b ⟨k, hk⟩ _ _
  · rw [dif_neg hk]
    refine (x2_at _ b 0 _ _).trans ?_
    have e : k = 128 := Fin.ext (by show (k : ℕ) = 128; omega)
    rw [e]
    rfl

set_option maxHeartbeats 1000000 in
/-- The compression weights with the bias as one more row. -/
theorem cwa_at (V : Valuation τ sig (Elt Ideal)) (k : Fin 129) (j : Fin 64) :
    (after hostOps0_6 V (Proc.devRef .tc main_v10) (ix2 k j) : EReal)
      = if h : (k : ℕ) < 128 then V (Proc.devRef .tc main_arg1) (ix4 j ⟨k, h⟩ 0 0) else V (Proc.devRef .tc main_arg2) (ix1 j) := by
  after_reads_at
  by_cases hk : (k : ℕ) < 128
  · rw [dif_pos hk, dif_pos hk]
    after_reads_at
  · rw [dif_neg hk, dif_neg hk]
    after_reads_at

set_option maxHeartbeats 1000000 in
/-- The encoder's weights, by tap and lane. -/
theorem ew_at (V : Valuation τ sig (Elt Ideal)) (a b : Fin 3) (j : Fin 64) (g : Fin 4) (s : Fin 32) (hs : (s : ℕ) < 25) :
    (after hostOps0_8 (after hostOps0_7 (after hostOps0_6 V)) (Proc.devRef .tc main_v14) (ix3 ⟨3 * a + b, by omega⟩ j ⟨32 * g + s, by omega⟩) : EReal)
      = V (Proc.devRef .tc main_arg3) (ix4 ⟨4 * s + g, by omega⟩ j a b) := by
  after_reads_at
  rw [dif_pos hs]
  refine congrArg (V _) ?_
  congr 1
  exact Fin.ext (by dsimp only; omega)

set_option maxHeartbeats 1000000 in
/-- The encoder's bias, by lane. -/
theorem eb_at (V : Valuation τ sig (Elt Ideal)) (g : Fin 4) (s : Fin 32) (hs : (s : ℕ) < 25) :
    (after hostOps0_10 (after hostOps0_9 (after hostOps0_8 V)) (Proc.devRef .tc main_v18) (ix2 0 ⟨32 * g + s, by omega⟩) : EReal)
      = V (Proc.devRef .tc main_arg4) (ix1 ⟨4 * s + g, by omega⟩) := by
  after_reads_at
  rw [dif_pos hs]
  refine congrArg (V _) ?_
  congr 1
  exact Fin.ext (by dsimp only; omega)

set_option maxHeartbeats 1000000 in
/-- The padding lanes' bias is minus infinity. -/
theorem eb_bot (V : Valuation τ sig (Elt Ideal)) (g : Fin 4) (s : Fin 32) (hs : 25 ≤ (s : ℕ)) :
    (after hostOps0_10 (after hostOps0_9 (after hostOps0_8 V)) (Proc.devRef .tc main_v18) (ix2 0 ⟨32 * g + s, by omega⟩) : EReal)
      = (⊥ : EReal) := by
  after_reads_at
  rw [dif_neg (by omega)]
  exact bot_bits

set_option maxHeartbeats 1000000 in
/-- The weights call's result, rearranged for the reassembly call. -/
theorem z_at (V : Valuation τ sig (Elt Ideal)) (b : Fin 8) (si : Fin 2) (t : Fin 32) (h : Fin 64) (x : Fin 128) :
    (after hostOps1 V (Proc.devRef .tc main_v25) (ix5 b si t h x) : EReal)
      = V (Proc.devRef .tc main_v19) (ix3 b ⟨66 * (h + 1) + (x / 2 + 1), by omega⟩ ⟨32 * (2 * si + x % 2) + t, by omega⟩) := by
  after_reads_at
  refine congrArg (V _) ?_
  congr 1 <;> exact Fin.ext (by dsimp only; omega)

end Cert.KHost
-- ==== Proof.TabA.lean ====
module

public import proofs.«01_k».proof.KernelIdeal

/-! The table of group sums: one where two lanes are in one group of 32, zero elsewhere. -/

@[expose] public section

set_option maxRecDepth 16384

namespace Cert.Tab

open Cert.KernelIdeal Idealize.ShloMosaic

theorem lit0_0 : ∀ (i : Fin 16) (j : Fin 128), lit0 ⟨128 * (0 + i) + j, by omega⟩ = if (0 + i : ℕ) / 32 = (j : ℕ) / 32 then 0x3F800000#32 else 0#32 := by
  decide +kernel

theorem lit0_1 : ∀ (i : Fin 16) (j : Fin 128), lit0 ⟨128 * (16 + i) + j, by omega⟩ = if (16 + i : ℕ) / 32 = (j : ℕ) / 32 then 0x3F800000#32 else 0#32 := by
  decide +kernel

theorem lit0_2 : ∀ (i : Fin 16) (j : Fin 128), lit0 ⟨128 * (32 + i) + j, by omega⟩ = if (32 + i : ℕ) / 32 = (j : ℕ) / 32 then 0x3F800000#32 else 0#32 := by
  decide +kernel

theorem lit0_3 : ∀ (i : Fin 16) (j : Fin 128), lit0 ⟨128 * (48 + i) + j, by omega⟩ = if (48 + i : ℕ) / 32 = (j : ℕ) / 32 then 0x3F800000#32 else 0#32 := by
  decide +kernel

theorem lit0_4 : ∀ (i : Fin 16) (j : Fin 128), lit0 ⟨128 * (64 + i) + j, by omega⟩ = if (64 + i : ℕ) / 32 = (j : ℕ) / 32 then 0x3F800000#32 else 0#32 := by
  decide +kernel

theorem lit0_5 : ∀ (i : Fin 16) (j : Fin 128), lit0 ⟨128 * (80 + i) + j, by omega⟩ = if (80 + i : ℕ) / 32 = (j : ℕ) / 32 then 0x3F800000#32 else 0#32 := by
  decide +kernel

theorem lit0_6 : ∀ (i : Fin 16) (j : Fin 128), lit0 ⟨128 * (96 + i) + j, by omega⟩ = if (96 + i : ℕ) / 32 = (j : ℕ) / 32 then 0x3F800000#32 else 0#32 := by
  decide +kernel

theorem lit0_7 : ∀ (i : Fin 16) (j : Fin 128), lit0 ⟨128 * (112 + i) + j, by omega⟩ = if (112 + i : ℕ) / 32 = (j : ℕ) / 32 then 0x3F800000#32 else 0#32 := by
  decide +kernel

end Cert.Tab
-- ==== Proof.TabB0.lean ====
module

public import proofs.«01_k».proof.KernelIdeal

/-! The one-hot table of column shift 0, sixteen rows at a time. -/

@[expose] public section

set_option maxRecDepth 16384

namespace Cert.Tab

open Cert.KernelIdeal Idealize.ShloMosaic

theorem lit1_0_0 : ∀ (w : Fin 16) (j : Fin 128), lit1 ⟨8192 * 0 + (128 * (0 + w) + j), by omega⟩ = if (0 + w : ℕ) + 2 = (j : ℕ) / 2 + 0 then 0x3F800000#32 else 0#32 := by
  decide +kernel

theorem lit1_0_1 : ∀ (w : Fin 16) (j : Fin 128), lit1 ⟨8192 * 0 + (128 * (16 + w) + j), by omega⟩ = if (16 + w : ℕ) + 2 = (j : ℕ) / 2 + 0 then 0x3F800000#32 else 0#32 := by
  decide +kernel

theorem lit1_0_2 : ∀ (w : Fin 16) (j : Fin 128), lit1 ⟨8192 * 0 + (128 * (32 + w) + j), by omega⟩ = if (32 + w : ℕ) + 2 = (j : ℕ) / 2 + 0 then 0x3F800000#32 else 0#32 := by
  decide +kernel

theorem lit1_0_3 : ∀ (w : Fin 16) (j : Fin 128), lit1 ⟨8192 * 0 + (128 * (48 + w) + j), by omega⟩ = if (48 + w : ℕ) + 2 = (j : ℕ) / 2 + 0 then 0x3F800000#32 else 0#32 := by
  decide +kernel

end Cert.Tab
-- ==== Proof.TabB1.lean ====
module

public import proofs.«01_k».proof.KernelIdeal

/-! The one-hot table of column shift 1, sixteen rows at a time. -/

@[expose] public section

set_option maxRecDepth 16384

namespace Cert.Tab

open Cert.KernelIdeal Idealize.ShloMosaic

theorem lit1_1_0 : ∀ (w : Fin 16) (j : Fin 128), lit1 ⟨8192 * 1 + (128 * (0 + w) + j), by omega⟩ = if (0 + w : ℕ) + 2 = (j : ℕ) / 2 + 1 then 0x3F800000#32 else 0#32 := by
  decide +kernel

theorem lit1_1_1 : ∀ (w : Fin 16) (j : Fin 128), lit1 ⟨8192 * 1 + (128 * (16 + w) + j), by omega⟩ = if (16 + w : ℕ) + 2 = (j : ℕ) / 2 + 1 then 0x3F800000#32 else 0#32 := by
  decide +kernel

theorem lit1_1_2 : ∀ (w : Fin 16) (j : Fin 128), lit1 ⟨8192 * 1 + (128 * (32 + w) + j), by omega⟩ = if (32 + w : ℕ) + 2 = (j : ℕ) / 2 + 1 then 0x3F800000#32 else 0#32 := by
  decide +kernel

theorem lit1_1_3 : ∀ (w : Fin 16) (j : Fin 128), lit1 ⟨8192 * 1 + (128 * (48 + w) + j), by omega⟩ = if (48 + w : ℕ) + 2 = (j : ℕ) / 2 + 1 then 0x3F800000#32 else 0#32 := by
  decide +kernel

end Cert.Tab
-- ==== Proof.TabB2.lean ====
module

public import proofs.«01_k».proof.KernelIdeal

/-! The one-hot table of column shift 2, sixteen rows at a time. -/

@[expose] public section

set_option maxRecDepth 16384

namespace Cert.Tab

open Cert.KernelIdeal Idealize.ShloMosaic

theorem lit1_2_0 : ∀ (w : Fin 16) (j : Fin 128), lit1 ⟨8192 * 2 + (128 * (0 + w) + j), by omega⟩ = if (0 + w : ℕ) + 2 = (j : ℕ) / 2 + 2 then 0x3F800000#32 else 0#32 := by
  decide +kernel

theorem lit1_2_1 : ∀ (w : Fin 16) (j : Fin 128), lit1 ⟨8192 * 2 + (128 * (16 + w) + j), by omega⟩ = if (16 + w : ℕ) + 2 = (j : ℕ) / 2 + 2 then 0x3F800000#32 else 0#32 := by
  decide +kernel

theorem lit1_2_2 : ∀ (w : Fin 16) (j : Fin 128), lit1 ⟨8192 * 2 + (128 * (32 + w) + j), by omega⟩ = if (32 + w : ℕ) + 2 = (j : ℕ) / 2 + 2 then 0x3F800000#32 else 0#32 := by
  decide +kernel

theorem lit1_2_3 : ∀ (w : Fin 16) (j : Fin 128), lit1 ⟨8192 * 2 + (128 * (48 + w) + j), by omega⟩ = if (48 + w : ℕ) + 2 = (j : ℕ) / 2 + 2 then 0x3F800000#32 else 0#32 := by
  decide +kernel

end Cert.Tab
-- ==== Proof.TabB3.lean ====
module

public import proofs.«01_k».proof.KernelIdeal

/-! The one-hot table of column shift 3, sixteen rows at a time. -/

@[expose] public section

set_option maxRecDepth 16384

namespace Cert.Tab

open Cert.KernelIdeal Idealize.ShloMosaic

theorem lit1_3_0 : ∀ (w : Fin 16) (j : Fin 128), lit1 ⟨8192 * 3 + (128 * (0 + w) + j), by omega⟩ = if (0 + w : ℕ) + 2 = (j : ℕ) / 2 + 3 then 0x3F800000#32 else 0#32 := by
  decide +kernel

theorem lit1_3_1 : ∀ (w : Fin 16) (j : Fin 128), lit1 ⟨8192 * 3 + (128 * (16 + w) + j), by omega⟩ = if (16 + w : ℕ) + 2 = (j : ℕ) / 2 + 3 then 0x3F800000#32 else 0#32 := by
  decide +kernel

theorem lit1_3_2 : ∀ (w : Fin 16) (j : Fin 128), lit1 ⟨8192 * 3 + (128 * (32 + w) + j), by omega⟩ = if (32 + w : ℕ) + 2 = (j : ℕ) / 2 + 3 then 0x3F800000#32 else 0#32 := by
  decide +kernel

theorem lit1_3_3 : ∀ (w : Fin 16) (j : Fin 128), lit1 ⟨8192 * 3 + (128 * (48 + w) + j), by omega⟩ = if (48 + w : ℕ) + 2 = (j : ℕ) / 2 + 3 then 0x3F800000#32 else 0#32 := by
  decide +kernel

end Cert.Tab
-- ==== Proof.TabB4.lean ====
module

public import proofs.«01_k».proof.KernelIdeal

/-! The one-hot table of column shift 4, sixteen rows at a time. -/

@[expose] public section

set_option maxRecDepth 16384

namespace Cert.Tab

open Cert.KernelIdeal Idealize.ShloMosaic

theorem lit1_4_0 : ∀ (w : Fin 16) (j : Fin 128), lit1 ⟨8192 * 4 + (128 * (0 + w) + j), by omega⟩ = if (0 + w : ℕ) + 2 = (j : ℕ) / 2 + 4 then 0x3F800000#32 else 0#32 := by
  decide +kernel

theorem lit1_4_1 : ∀ (w : Fin 16) (j : Fin 128), lit1 ⟨8192 * 4 + (128 * (16 + w) + j), by omega⟩ = if (16 + w : ℕ) + 2 = (j : ℕ) / 2 + 4 then 0x3F800000#32 else 0#32 := by
  decide +kernel

theorem lit1_4_2 : ∀ (w : Fin 16) (j : Fin 128), lit1 ⟨8192 * 4 + (128 * (32 + w) + j), by omega⟩ = if (32 + w : ℕ) + 2 = (j : ℕ) / 2 + 4 then 0x3F800000#32 else 0#32 := by
  decide +kernel

theorem lit1_4_3 : ∀ (w : Fin 16) (j : Fin 128), lit1 ⟨8192 * 4 + (128 * (48 + w) + j), by omega⟩ = if (48 + w : ℕ) + 2 = (j : ℕ) / 2 + 4 then 0x3F800000#32 else 0#32 := by
  decide +kernel

end Cert.Tab
-- ==== Proof.Tab.lean ====
module

public import proofs.«01_k».proof.Proof.TabA
public import proofs.«01_k».proof.Proof.TabB0
public import proofs.«01_k».proof.Proof.TabB1
public import proofs.«01_k».proof.Proof.TabB2
public import proofs.«01_k».proof.Proof.TabB3
public import proofs.«01_k».proof.Proof.TabB4

/-! The two literal tables, whole. -/

@[expose] public section

namespace Cert.Tab

open Cert.KernelIdeal Idealize.ShloMosaic

theorem lit0_tab (i : ℕ) (hi : i < 128) (j : Fin 128) : lit0 ⟨128 * i + j, by omega⟩ = if i / 32 = (j : ℕ) / 32 then 0x3F800000#32 else 0#32 := by
  rcases (by omega : i / 16 = 0 ∨ i / 16 = 1 ∨ i / 16 = 2 ∨ i / 16 = 3 ∨ i / 16 = 4 ∨ i / 16 = 5 ∨ i / 16 = 6 ∨ i / 16 = 7) with h | h | h | h | h | h | h | h
  · obtain ⟨r, rfl⟩ : ∃ r : Fin 16, i = 0 + r := ⟨⟨i - 0, by omega⟩, by show i = 0 + (i - 0); omega⟩
    exact lit0_0 r j
  · obtain ⟨r, rfl⟩ : ∃ r : Fin 16, i = 16 + r := ⟨⟨i - 16, by omega⟩, by show i = 16 + (i - 16); omega⟩
    exact lit0_1 r j
  · obtain ⟨r, rfl⟩ : ∃ r : Fin 16, i = 32 + r := ⟨⟨i - 32, by omega⟩, by show i = 32 + (i - 32); omega⟩
    exact lit0_2 r j
  · obtain ⟨r, rfl⟩ : ∃ r : Fin 16, i = 48 + r := ⟨⟨i - 48, by omega⟩, by show i = 48 + (i - 48); omega⟩
    exact lit0_3 r j
  · obtain ⟨r, rfl⟩ : ∃ r : Fin 16, i = 64 + r := ⟨⟨i - 64, by omega⟩, by show i = 64 + (i - 64); omega⟩
    exact lit0_4 r j
  · obtain ⟨r, rfl⟩ : ∃ r : Fin 16, i = 80 + r := ⟨⟨i - 80, by omega⟩, by show i = 80 + (i - 80); omega⟩
    exact lit0_5 r j
  · obtain ⟨r, rfl⟩ : ∃ r : Fin 16, i = 96 + r := ⟨⟨i - 96, by omega⟩, by show i = 96 + (i - 96); omega⟩
    exact lit0_6 r j
  · obtain ⟨r, rfl⟩ : ∃ r : Fin 16, i = 112 + r := ⟨⟨i - 112, by omega⟩, by show i = 112 + (i - 112); omega⟩
    exact lit0_7 r j

theorem lit1_tab (k : ℕ) (hk : k < 5) (w : ℕ) (hw : w < 64) (j : Fin 128) :
    lit1 ⟨8192 * k + (128 * w + j), by omega⟩ = if w + 2 = (j : ℕ) / 2 + k then 0x3F800000#32 else 0#32 := by
  rcases (by omega : w / 16 = 0 ∨ w / 16 = 1 ∨ w / 16 = 2 ∨ w / 16 = 3) with h | h | h | h
  · obtain ⟨r, rfl⟩ : ∃ r : Fin 16, w = 0 + r := ⟨⟨w - 0, by omega⟩, by show w = 0 + (w - 0); omega⟩
    rcases (by omega : k = 0 ∨ k = 1 ∨ k = 2 ∨ k = 3 ∨ k = 4) with rfl | rfl | rfl | rfl | rfl
    · exact lit1_0_0 r j
    · exact lit1_1_0 r j
    · exact lit1_2_0 r j
    · exact lit1_3_0 r j
    · exact lit1_4_0 r j
  · obtain ⟨r, rfl⟩ : ∃ r : Fin 16, w = 16 + r := ⟨⟨w - 16, by omega⟩, by show w = 16 + (w - 16); omega⟩
    rcases (by omega : k = 0 ∨ k = 1 ∨ k = 2 ∨ k = 3 ∨ k = 4) with rfl | rfl | rfl | rfl | rfl
    · exact lit1_0_1 r j
    · exact lit1_1_1 r j
    · exact lit1_2_1 r j
    · exact lit1_3_1 r j
    · exact lit1_4_1 r j
  · obtain ⟨r, rfl⟩ : ∃ r : Fin 16, w = 32 + r := ⟨⟨w - 32, by omega⟩, by show w = 32 + (w - 32); omega⟩
    rcases (by omega : k = 0 ∨ k = 1 ∨ k = 2 ∨ k = 3 ∨ k = 4) with rfl | rfl | rfl | rfl | rfl
    · exact lit1_0_2 r j
    · exact lit1_1_2 r j
    · exact lit1_2_2 r j
    · exact lit1_3_2 r j
    · exact lit1_4_2 r j
  · obtain ⟨r, rfl⟩ : ∃ r : Fin 16, w = 48 + r := ⟨⟨w - 48, by omega⟩, by show w = 48 + (w - 48); omega⟩
    rcases (by omega : k = 0 ∨ k = 1 ∨ k = 2 ∨ k = 3 ∨ k = 4) with rfl | rfl | rfl | rfl | rfl
    · exact lit1_0_3 r j
    · exact lit1_1_3 r j
    · exact lit1_2_3 r j
    · exact lit1_3_3 r j
    · exact lit1_4_3 r j

end Cert.Tab
-- ==== Proof.KEnd.lean ====
module

public import proofs.«01_k».proof.Proof.KVal
public import proofs.«01_k».proof.Proof.KHost
public import proofs.«01_k».proof.Proof.Tab

/-! The kernel's result as mathematics: the two calls' values over what the host operations hand them. -/

@[expose] public section

set_option maxRecDepth 16384

noncomputable section

namespace Cert.KEnd

open Cert.KernelIdeal Cert.KernelIdeal.Gen Idealize.ShloMosaic Idealize.ShloMosaic.TcCoe Idealize.ShloMosaic.StableHlo Cert.Carafe Cert.Arr Cert.KVal Cert.KHost Cert.Tab

/-- The compression of a framed pixel, as one sum over 129 channels: the framed ones carry the bias. -/
theorem comp_sum (X : Fin 8 → Fin 128 → Fin 64 → Fin 64 → EReal) (W : Fin 64 → Fin 128 → EReal) (B : Fin 64 → EReal)
    (b : Fin 8) (m : Fin 64) (r c : ℕ) (x y : Fin 129 → EReal)
    (hx : ∀ k : Fin 129, x k = if h : (1 ≤ r ∧ r < 65) ∧ (1 ≤ c ∧ c < 65) then
      (if hk : (k : ℕ) < 128 then X b ⟨k, hk⟩ ⟨r - 1, by omega⟩ ⟨c - 1, by omega⟩ else 1) else 0)
    (hy : ∀ k : Fin 129, y k = if hk : (k : ℕ) < 128 then W m ⟨k, hk⟩ else B m) :
    ∑ k : Fin 129, x k * y k = comp X W B b m r c := by
  unfold comp
  by_cases h : (1 ≤ r ∧ r < 65) ∧ (1 ≤ c ∧ c < 65)
  · rw [dif_pos h, Fin.sum_univ_castSucc]
    refine congrArg₂ (· + ·) (Finset.sum_congr rfl fun k _ => ?_) ?_
    · have hk : (k.castSucc : ℕ) < 128 := k.isLt
      rw [hx, hy, dif_pos h, dif_pos hk, dif_pos hk, mul_comm]
      rfl
    · have hk : ¬ ((Fin.last 128 : Fin 129) : ℕ) < 128 := by simp
      rw [hx, hy, dif_pos h, dif_neg hk, dif_neg hk, one_mul]
  · rw [dif_neg h]
    refine Finset.sum_eq_zero fun k _ => ?_
    rw [hx, dif_neg h, zero_mul]

variable (m : (ℓ : Loc nD τ sig) → Buf (Elt Ideal) ℓ) (ρ : Dev nD → PrngReg) (c : Dev nD)

/-- The arguments as launched, by coordinates. -/
abbrev kX : Fin 8 → Fin 128 → Fin 64 → Fin 64 → EReal := fun b k r w => (m ((c.tc : Thread nD τ).loc main_arg0) : FVec Ideal S8x128x64x64 .f32) (ix4 b k r w)
abbrev kW : Fin 64 → Fin 128 → EReal := fun j k => (m ((c.tc : Thread nD τ).loc main_arg1) : FVec Ideal S64x128x1x1 .f32) (ix4 j k 0 0)
abbrev kB : Fin 64 → EReal := fun j => (m ((c.tc : Thread nD τ).loc main_arg2) : FVec Ideal S64 .f32) (ix1 j)
abbrev kE : Fin 100 → Fin 64 → Fin 3 → Fin 3 → EReal := fun o j a b => (m ((c.tc : Thread nD τ).loc main_arg3) : FVec Ideal S100x64x3x3 .f32) (ix4 o j a b)
abbrev kD : Fin 100 → EReal := fun o => (m ((c.tc : Thread nD τ).loc main_arg4) : FVec Ideal S100 .f32) (ix1 o)

/-- The framed, flattened input as the weights call finds it. -/
theorem v6_at (b : Fin 8) (q : Fin 4360) (k : Fin 129) (hq : (q : ℕ) < 4356) :
    (W11 m ρ c (Proc.devRef .tc main_v6) (ix3 b q k) : EReal)
      = if h : (1 ≤ (q / 66 : ℕ) ∧ (q / 66 : ℕ) < 65) ∧ (1 ≤ (q % 66 : ℕ) ∧ (q % 66 : ℕ) < 65) then
        (if hk : (k : ℕ) < 128 then kX m c b ⟨k, hk⟩ ⟨q / 66 - 1, by omega⟩ ⟨q % 66 - 1, by omega⟩ else 1) else 0 := by
  have e : W11 m ρ c (Proc.devRef .tc main_v6) = W6 m ρ c (Proc.devRef .tc main_v6) :=
    (W11_of m ρ c main_v6 (by decide)).trans ((W10_of m ρ c main_v6 (by decide)).trans ((W9_of m ρ c main_v6 (by decide)).trans
      ((W8_of m ρ c main_v6 (by decide)).trans (W7_of m ρ c main_v6 (by decide)))))
  rw [e]
  refine (xt_at (W0 m ρ c) b q k hq).trans ?_
  unfold xcell
  rfl

/-- The compression's weights, with its bias as their last row. -/
theorem v10_at (k : Fin 129) (j : Fin 64) :
    (W11 m ρ c (Proc.devRef .tc main_v10) (ix2 k j) : EReal) = if hk : (k : ℕ) < 128 then kW m c j ⟨k, hk⟩ else kB m c j := by
  have e : W11 m ρ c (Proc.devRef .tc main_v10) = W7 m ρ c (Proc.devRef .tc main_v10) :=
    (W11_of m ρ c main_v10 (by decide)).trans ((W10_of m ρ c main_v10 (by decide)).trans ((W9_of m ρ c main_v10 (by decide)).trans
      (W8_of m ρ c main_v10 (by decide))))
  rw [e]
  refine (cwa_at (W6 m ρ c) k j).trans ?_
  rw [W6_args m ρ c main_arg1 (by decide), W6_args m ρ c main_arg2 (by decide)]

/-- The encoder's weights, by tap and lane. -/
theorem v14_at (a b : Fin 3) (j : Fin 64) (g : Fin 4) (s : Fin 25) :
    (W11 m ρ c (Proc.devRef .tc main_v14) (ix3 ⟨3 * a + b, by omega⟩ j ⟨32 * g + s, by omega⟩) : EReal) = kE m c ⟨4 * s + g, by omega⟩ j a b := by
  have e : W11 m ρ c (Proc.devRef .tc main_v14) = W9 m ρ c (Proc.devRef .tc main_v14) :=
    (W11_of m ρ c main_v14 (by decide)).trans (W10_of m ρ c main_v14 (by decide))
  rw [e]
  refine (ew_at (W6 m ρ c) a b j g ⟨s, by omega⟩ s.isLt).trans ?_
  rw [W6_args m ρ c main_arg3 (by decide)]

/-- The encoder's bias, by lane. -/
theorem v18_at (g : Fin 4) (s : Fin 25) :
    (W11 m ρ c (Proc.devRef .tc main_v18) (ix2 0 ⟨32 * g + s, by omega⟩) : EReal) = kD m c ⟨4 * s + g, by omega⟩ := by
  refine (eb_at (W8 m ρ c) g ⟨s, by omega⟩ s.isLt).trans ?_
  rw [W8_args m ρ c main_arg4 (by decide)]

theorem v18_bot (g : Fin 4) (s : Fin 32) (hs : 25 ≤ (s : ℕ)) :
    (W11 m ρ c (Proc.devRef .tc main_v18) (ix2 0 ⟨32 * g + s, by omega⟩) : EReal) = (⊥ : EReal) :=
  eb_bot (W8 m ρ c) g s hs

theorem tab0 (V : Valuation τ sig (Elt Ideal)) : (after hostOps0 V (Proc.devRef .tc main_cst) : FVec Ideal S128x128 .f32) = (fun i => FloatOps.ofBits .f32 (lit0 (S128x128.rowMajor i)) : FVec Ideal S128x128 .f32) := by
  after_reads_simp
  rfl

theorem tab1 (V : Valuation τ sig (Elt Ideal)) : (after hostOps0 V (Proc.devRef .tc main_cst_0) : FVec Ideal S5x64x128 .f32) = (fun i => FloatOps.ofBits .f32 (lit1 (S5x64x128.rowMajor i)) : FVec Ideal S5x64x128 .f32) := by
  after_reads_simp
  rfl

theorem bits_ite (p : Prop) [Decidable p] : (Ideal.ofBits .f32 (if p then 0x3F800000#32 else 0#32) : EReal) = if p then 1 else 0 := by
  by_cases h : p
  · rw [if_pos h, if_pos h, one_bits]
  · rw [if_neg h, if_neg h, zero_bits]

/-- The table that sums a lane group. -/
theorem cst_at (i j : Fin 128) : (W11 m ρ c (Proc.devRef .tc main_cst) (ix2 i j) : EReal) = if (i : ℕ) / 32 = (j : ℕ) / 32 then (1 : EReal) else 0 := by
  have e : W11 m ρ c (Proc.devRef .tc main_cst) = W1 m ρ c (Proc.devRef .tc main_cst) :=
    (W11_of m ρ c main_cst (by decide)).trans ((W10_of m ρ c main_cst (by decide)).trans ((W9_of m ρ c main_cst (by decide)).trans
      ((W8_of m ρ c main_cst (by decide)).trans ((W7_of m ρ c main_cst (by decide)).trans ((W6_of m ρ c main_cst (by decide)).trans
      ((W5_of m ρ c main_cst (by decide)).trans ((W4_of m ρ c main_cst (by decide)).trans ((W3_of m ρ c main_cst (by decide)).trans
      (W2_of m ρ c main_cst (by decide))))))))))
  rw [e]
  refine (congrFun (tab0 (W0 m ρ c)) (ix2 i j)).trans ?_
  have r : (S128x128.rowMajor (ix2 i j) : ℕ) = 128 * i + j := by
    rw [Shape.rowMajor_val_two]
    show (i : ℕ) * 128 + j = _
    omega
  have r' : (show Fin 16384 from S128x128.rowMajor (ix2 i j)) = (⟨128 * i + j, by omega⟩ : Fin 16384) := Fin.ext r
  refine Eq.trans (α := EReal) (congrArg (fun n => Ideal.ofBits .f32 (lit0 n)) r') ?_
  rw [lit0_tab i i.isLt j]
  exact bits_ite _

/-- The table of shifted columns. -/
theorem cst0_at (k : Fin 5) (w : Fin 64) (x : Fin 128) : (W13 m ρ c (Proc.devRef .tc main_cst_0) (ix3 k w x) : EReal) = if (w : ℕ) + 2 = (x : ℕ) / 2 + k then (1 : EReal) else 0 := by
  have e : W13 m ρ c (Proc.devRef .tc main_cst_0) = W1 m ρ c (Proc.devRef .tc main_cst_0) :=
    (W13_of m ρ c main_cst_0 (by decide)).trans ((W12_of m ρ c main_cst_0 (by decide)).trans
    ((W11_of m ρ c main_cst_0 (by decide)).trans ((W10_of m ρ c main_cst_0 (by decide)).trans ((W9_of m ρ c main_cst_0 (by decide)).trans
      ((W8_of m ρ c main_cst_0 (by decide)).trans ((W7_of m ρ c main_cst_0 (by decide)).trans ((W6_of m ρ c main_cst_0 (by decide)).trans
      ((W5_of m ρ c main_cst_0 (by decide)).trans ((W4_of m ρ c main_cst_0 (by decide)).trans ((W3_of m ρ c main_cst_0 (by decide)).trans
      (W2_of m ρ c main_cst_0 (by decide))))))))))))
  rw [e]
  refine (congrFun (tab1 (W0 m ρ c)) (ix3 k w x)).trans ?_
  have r : (S5x64x128.rowMajor (ix3 k w x) : ℕ) = 8192 * k + (128 * w + x) := by
    rw [Shape.rowMajor_val_three]
    show ((k : ℕ) * 64 + w) * 128 + x = _
    omega
  have r' : (show Fin 40960 from S5x64x128.rowMajor (ix3 k w x)) = (⟨8192 * k + (128 * w + x), by omega⟩ : Fin 40960) := Fin.ext r
  refine Eq.trans (α := EReal) (congrArg (fun n => Ideal.ofBits .f32 (lit1 n)) r') ?_
  rw [lit1_tab k k.isLt w w.isLt x]
  exact bits_ite _

/-- The logits, of the arguments as launched. -/
abbrev lgk (b : Fin 8) (o : Fin 100) (h w : ℕ) : EReal := logit (comp (kX m c) (kW m c) (kB m c) b) (kE m c) (kD m c) o h w

theorem v19_eq : (W12 m ρ c (Proc.devRef .tc main_v19) : FVec Ideal S8x4360x128 .f32)
    = G0 (W11 m ρ c main_v6) (W11 m ρ c main_v10) (W11 m ρ c main_v14) (W11 m ρ c main_v18) (W11 m ρ c main_cst) :=
  (W12_arr m ρ c 5).trans (final0 (V11 m ρ) c)

/-- The weights call's result. -/
theorem v19_at (hK : ∀ (b : Fin 8) (o : Fin 100) (h w : Fin 64), lgk m c b o h w ≤ (Ideal.ofBits .f32 0x42700000#32 : EReal))
    (b : Fin 8) (h w : Fin 64) (g : Fin 4) (t : Fin 25) :
    (W12 m ρ c (Proc.devRef .tc main_v19) (ix3 b ⟨66 * (h + 1) + (w + 1), by omega⟩ ⟨32 * g + t, by omega⟩) : EReal)
      = soft (fun s : Fin 25 => lgk m c b ⟨4 * s + g, by omega⟩ h w) t := by
  refine (congrFun (v19_eq m ρ c) _).trans ?_
  refine wcell_at (fun j => (W11 m ρ c main_v6 : FVec Ideal S8x4360x129 .f32) (ix3 b (j 1) (j 2))) (W11 m ρ c main_v10) (W11 m ρ c main_v14) (W11 m ρ c main_v18) (W11 m ρ c main_cst)
    (comp (kX m c) (kW m c) (kB m c) b) (kE m c) (kD m c) ?_ (v14_at m ρ c) (v18_at m ρ c) (v18_bot m ρ c) (cst_at m ρ c) (hK b) h w g t
  intro q hq j
  exact comp_sum (kX m c) (kW m c) (kB m c) b j (q / 66) (q % 66) _ _ (fun k => v6_at m ρ c b ⟨q, by omega⟩ k hq) (fun k => v10_at m ρ c k j)

theorem v26_eq : (W14 m ρ c (Proc.devRef .tc main_v26) : FVec Ideal S8x128x128x128 .f32)
    = G1 (m ((c.tc : Thread nD τ).loc main_arg0)) (W13 m ρ c main_v25) (W13 m ρ c main_cst_0) :=
  ((W14_arr m ρ c 3).trans (final1 (V13 m ρ) c)).trans
    (congrArg (fun X => G1 X (W13 m ρ c main_v25) (W13 m ρ c main_cst_0)) (W13_args m ρ c main_arg0 (by decide)))

/-- The kernel's result at an output pixel, for logits the clamp leaves alone. -/
theorem result_at (hK : ∀ (b : Fin 8) (o : Fin 100) (h w : Fin 64), lgk m c b o h w ≤ (Ideal.ofBits .f32 0x42700000#32 : EReal))
    (b : Fin 8) (ch oh ow : Fin 128) :
    (W14 m ρ c (Proc.devRef .tc main_v26) (ix4 b ch oh ow) : EReal)
      = ∑ t : Fin 25, xq (kX m c) b ch (oh / 2 + t / 5) (ow / 2 + t % 5) * soft (fun s : Fin 25 => lgk m c b (lane oh ow s) (oh / 2) (ow / 2)) t := by
  refine (congrFun (v26_eq m ρ c) _).trans ?_
  refine G1_at _ _ _ (cst0_at m ρ c) _ b ch oh ow fun t => ?_
  refine (z_at (W12 m ρ c) b ⟨oh % 2, by omega⟩ ⟨t, by omega⟩ ⟨oh / 2, by omega⟩ ow).trans ?_
  refine (v19_at m ρ c hK b ⟨oh / 2, by omega⟩ ⟨ow / 2, by omega⟩ ⟨2 * (oh % 2) + ow % 2, by omega⟩ t).trans ?_
  refine congrArg (fun l => soft l t) (funext fun s => ?_)
  have e : (⟨4 * s + (2 * (oh % 2) + ow % 2), by omega⟩ : Fin 100) = lane oh ow s := Fin.ext (by show _ = 4 * (s : ℕ) + 2 * (oh % 2) + ow % 2; dsimp only; omega)
  exact congrArg (fun o => lgk m c b o (oh / 2) (ow / 2)) e

end Cert.KEnd
-- ==== Proof.RefRun.lean ====
module

public import proofs.«01_k».proof.Proof.Gen.ReferenceIdeal
public import Idealize.ShloMosaic.Lib.StableHlo.Run
public import Idealize.ShloMosaic.Lib.StableHlo.ReadAt
public import Idealize.ShloMosaic.Lib.Pipeline.Frame

/-! The reference's run: its host operations as eight stretches, one after another, and the memory at the end as what
the eight stretches leave. -/

@[expose] public section

noncomputable section

namespace Cert.Ref

open Cert.ReferenceIdeal Cert.ReferenceIdeal.Gen Idealize.ShloMosaic Idealize.ShloMosaic.TcCoe Idealize.SL.Sem Idealize.ShloMosaic.StableHlo

variable {F : FTy → Type} [FloatOps F]

/-- The function that writes `main_v130`: its operands stacked. -/
def fn_main_v130 : (main_v105 : Ref sig .tc).ty.Contents (Elt F) → (main_v106 : Ref sig .tc).ty.Contents (Elt F) → (main_v107 : Ref sig .tc).ty.Contents (Elt F) → (main_v108 : Ref sig .tc).ty.Contents (Elt F) → (main_v109 : Ref sig .tc).ty.Contents (Elt F) → (main_v110 : Ref sig .tc).ty.Contents (Elt F) → (main_v111 : Ref sig .tc).ty.Contents (Elt F) → (main_v112 : Ref sig .tc).ty.Contents (Elt F) → (main_v113 : Ref sig .tc).ty.Contents (Elt F) → (main_v114 : Ref sig .tc).ty.Contents (Elt F) → (main_v115 : Ref sig .tc).ty.Contents (Elt F) → (main_v116 : Ref sig .tc).ty.Contents (Elt F) → (main_v117 : Ref sig .tc).ty.Contents (Elt F) → (main_v118 : Ref sig .tc).ty.Contents (Elt F) → (main_v119 : Ref sig .tc).ty.Contents (Elt F) → (main_v120 : Ref sig .tc).ty.Contents (Elt F) → (main_v130 : Ref sig .tc).ty.Contents (Elt F) :=
  (fun u0 u1 u2 u3 u4 u5 u6 u7 u8 u9 u10 u11 u12 u13 u14 u15 => (concatenate S8x128x16x64x64 2 [⟨S8x128x1x64x64, (u0 : (⟨S8x128x1x64x64, .f32⟩ : BufTy).Contents (Elt F))⟩, ⟨S8x128x1x64x64, (u1 : (⟨S8x128x1x64x64, .f32⟩ : BufTy).Contents (Elt F))⟩, ⟨S8x128x1x64x64, (u2 : (⟨S8x128x1x64x64, .f32⟩ : BufTy).Contents (Elt F))⟩, ⟨S8x128x1x64x64, (u3 : (⟨S8x128x1x64x64, .f32⟩ : BufTy).Contents (Elt F))⟩, ⟨S8x128x1x64x64, (u4 : (⟨S8x128x1x64x64, .f32⟩ : BufTy).Contents (Elt F))⟩, ⟨S8x128x1x64x64, (u5 : (⟨S8x128x1x64x64, .f32⟩ : BufTy).Contents (Elt F))⟩, ⟨S8x128x1x64x64, (u6 : (⟨S8x128x1x64x64, .f32⟩ : BufTy).Contents (Elt F))⟩, ⟨S8x128x1x64x64, (u7 : (⟨S8x128x1x64x64, .f32⟩ : BufTy).Contents (Elt F))⟩, ⟨S8x128x1x64x64, (u8 : (⟨S8x128x1x64x64, .f32⟩ : BufTy).Contents (Elt F))⟩, ⟨S8x128x1x64x64, (u9 : (⟨S8x128x1x64x64, .f32⟩ : BufTy).Contents (Elt F))⟩, ⟨S8x128x1x64x64, (u10 : (⟨S8x128x1x64x64, .f32⟩ : BufTy).Contents (Elt F))⟩, ⟨S8x128x1x64x64, (u11 : (⟨S8x128x1x64x64, .f32⟩ : BufTy).Contents (Elt F))⟩, ⟨S8x128x1x64x64, (u12 : (⟨S8x128x1x64x64, .f32⟩ : BufTy).Contents (Elt F))⟩, ⟨S8x128x1x64x64, (u13 : (⟨S8x128x1x64x64, .f32⟩ : BufTy).Contents (Elt F))⟩, ⟨S8x128x1x64x64, (u14 : (⟨S8x128x1x64x64, .f32⟩ : BufTy).Contents (Elt F))⟩, ⟨S8x128x1x64x64, (u15 : (⟨S8x128x1x64x64, .f32⟩ : BufTy).Contents (Elt F))⟩] concatenates_S8x128x1x64x64_S8x128x1x64x64_S8x128x1x64x64_S8x128x1x64x64_S8x128x1x64x64_S8x128x1x64x64_S8x128x1x64x64_S8x128x1x64x64_S8x128x1x64x64_S8x128x1x64x64_S8x128x1x64x64_S8x128x1x64x64_S8x128x1x64x64_S8x128x1x64x64_S8x128x1x64x64_S8x128x1x64x64_S8x128x16x64x64_d2 : (⟨S8x128x16x64x64, .f32⟩ : BufTy).Contents (Elt F)))

/-- The function that writes `main_v131`: its operands stacked. -/
def fn_main_v131 : (main_v121 : Ref sig .tc).ty.Contents (Elt F) → (main_v122 : Ref sig .tc).ty.Contents (Elt F) → (main_v123 : Ref sig .tc).ty.Contents (Elt F) → (main_v124 : Ref sig .tc).ty.Contents (Elt F) → (main_v125 : Ref sig .tc).ty.Contents (Elt F) → (main_v126 : Ref sig .tc).ty.Contents (Elt F) → (main_v127 : Ref sig .tc).ty.Contents (Elt F) → (main_v128 : Ref sig .tc).ty.Contents (Elt F) → (main_v129 : Ref sig .tc).ty.Contents (Elt F) → (main_v131 : Ref sig .tc).ty.Contents (Elt F) :=
  (fun u0 u1 u2 u3 u4 u5 u6 u7 u8 => (concatenate S8x128x9x64x64 2 [⟨S8x128x1x64x64, (u0 : (⟨S8x128x1x64x64, .f32⟩ : BufTy).Contents (Elt F))⟩, ⟨S8x128x1x64x64, (u1 : (⟨S8x128x1x64x64, .f32⟩ : BufTy).Contents (Elt F))⟩, ⟨S8x128x1x64x64, (u2 : (⟨S8x128x1x64x64, .f32⟩ : BufTy).Contents (Elt F))⟩, ⟨S8x128x1x64x64, (u3 : (⟨S8x128x1x64x64, .f32⟩ : BufTy).Contents (Elt F))⟩, ⟨S8x128x1x64x64, (u4 : (⟨S8x128x1x64x64, .f32⟩ : BufTy).Contents (Elt F))⟩, ⟨S8x128x1x64x64, (u5 : (⟨S8x128x1x64x64, .f32⟩ : BufTy).Contents (Elt F))⟩, ⟨S8x128x1x64x64, (u6 : (⟨S8x128x1x64x64, .f32⟩ : BufTy).Contents (Elt F))⟩, ⟨S8x128x1x64x64, (u7 : (⟨S8x128x1x64x64, .f32⟩ : BufTy).Contents (Elt F))⟩, ⟨S8x128x1x64x64, (u8 : (⟨S8x128x1x64x64, .f32⟩ : BufTy).Contents (Elt F))⟩] concatenates_S8x128x1x64x64_S8x128x1x64x64_S8x128x1x64x64_S8x128x1x64x64_S8x128x1x64x64_S8x128x1x64x64_S8x128x1x64x64_S8x128x1x64x64_S8x128x1x64x64_S8x128x9x64x64_d2 : (⟨S8x128x9x64x64, .f32⟩ : BufTy).Contents (Elt F)))

/-- The function that writes `main_v132`: its operands stacked. -/
def fn_main_v132 : (⟨S8x128x16x64x64, .f32⟩ : BufTy).Contents (Elt F) → (⟨S8x128x9x64x64, .f32⟩ : BufTy).Contents (Elt F) → (⟨S8x128x25x64x64, .f32⟩ : BufTy).Contents (Elt F) :=
  (fun a b => concatenate S8x128x25x64x64 2 [⟨S8x128x16x64x64, a⟩, ⟨S8x128x9x64x64, b⟩] concatenates_S8x128x16x64x64_S8x128x9x64x64_S8x128x25x64x64_d2)

set_option maxHeartbeats 4000000 in
/-- Stretch A: the compression, framed by a ring of zeros. -/
abbrev opsA : List (HloOp τ sig (Elt F)) :=
  [ reshape main_arg1 main_v0 (rfl : (.f32 : EltTy) = .f32) shapeCasts_S64x128x1x1_S64x128,
    binary main_v0 main_arg0 main_v1 ((fun l r => Host.dotGeneral dot_S64x128_S8x128x64x64_S64x8x64x64_1_1_0_023_n_n none l r) : (⟨S64x128, .f32⟩ : BufTy).Contents (Elt F) → (⟨S8x128x64x64, .f32⟩ : BufTy).Contents (Elt F) → (⟨S64x8x64x64, .f32⟩ : BufTy).Contents (Elt F)),
    unary main_v1 main_v2 ((transpose S8x64x64x64 [1, 0, 2, 3] · transposes_S64x8x64x64_S8x64x64x64_1_0_2_3) : (⟨S64x8x64x64, .f32⟩ : BufTy).Contents (Elt F) → (⟨S8x64x64x64, .f32⟩ : BufTy).Contents (Elt F)),
    unary main_arg2 main_v3 (broadcastInDim S1x64x1x1 ![1] bcast_S64_S1x64x1x1_1 : (⟨S64, .f32⟩ : BufTy).Contents (Elt F) → (⟨S1x64x1x1, .f32⟩ : BufTy).Contents (Elt F)),
    unary main_v3 main_v4 (broadcastInDim S8x64x64x64 ![0, 1, 2, 3] bcast_S1x64x1x1_S8x64x64x64_0_1_2_3 : (⟨S1x64x1x1, .f32⟩ : BufTy).Contents (Elt F) → (⟨S8x64x64x64, .f32⟩ : BufTy).Contents (Elt F)),
    binary main_v2 main_v4 main_v5 (addf : (⟨S8x64x64x64, .f32⟩ : BufTy).Contents (Elt F) → (⟨S8x64x64x64, .f32⟩ : BufTy).Contents (Elt F) → (⟨S8x64x64x64, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x64x64x64, .f32⟩) main_v5) (TRef.of (T := ⟨S_, .f32⟩) main_call0_v0) (TRef.of (T := ⟨S8x64x66x66, .f32⟩) main_v6) (fun x v => pad S8x64x66x66 ![0, 0, 1, 1] ![0, 0, 1, 1] ![0, 0, 0, 0] x v pads_S8x64x64x64_S8x64x66x66_000_000_110_110 h_S_) ]

set_option maxHeartbeats 4000000 in
/-- Stretch B: the nine shifted products and the bias. -/
abbrev opsB : List (HloOp τ sig (Elt F)) :=
  [ unary main_v6 main_v7 ((extractStridedSlice S8x64x64x64 ![0, 0, 0, 0] · slices_S8x64x66x66_S8x64x64x64_0_0_0_0) : (⟨S8x64x66x66, .f32⟩ : BufTy).Contents (Elt F) → (⟨S8x64x64x64, .f32⟩ : BufTy).Contents (Elt F)),
    unary main_arg3 main_v8 ((extractStridedSlice S100x64x1x1 ![0, 0, 0, 0] · slices_S100x64x3x3_S100x64x1x1_0_0_0_0) : (⟨S100x64x3x3, .f32⟩ : BufTy).Contents (Elt F) → (⟨S100x64x1x1, .f32⟩ : BufTy).Contents (Elt F)),
    reshape main_v8 main_v9 (rfl : (.f32 : EltTy) = .f32) shapeCasts_S100x64x1x1_S100x64,
    binary main_v9 main_v7 main_v10 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v10 main_v11 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    nullary main_cst (constant S_ .f32 0x00000000#32),
    unary main_cst main_v12 (broadcastInDim S8x100x64x64 ![] bcast_S_S8x100x64x64 : (⟨S_, .f32⟩ : BufTy).Contents (Elt F) → (⟨S8x100x64x64, .f32⟩ : BufTy).Contents (Elt F)),
    binary main_v12 main_v11 main_v13 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v14 ((extractStridedSlice S8x64x64x64 ![0, 0, 0, 1] · slices_S8x64x66x66_S8x64x64x64_0_0_0_1) : (⟨S8x64x66x66, .f32⟩ : BufTy).Contents (Elt F) → (⟨S8x64x64x64, .f32⟩ : BufTy).Contents (Elt F)),
    unary main_arg3 main_v15 ((extractStridedSlice S100x64x1x1 ![0, 0, 0, 1] · slices_S100x64x3x3_S100x64x1x1_0_0_0_1) : (⟨S100x64x3x3, .f32⟩ : BufTy).Contents (Elt F) → (⟨S100x64x1x1, .f32⟩ : BufTy).Contents (Elt F)),
    reshape main_v15 main_v16 (rfl : (.f32 : EltTy) = .f32) shapeCasts_S100x64x1x1_S100x64,
    binary main_v16 main_v14 main_v17 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v17 main_v18 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v13 main_v18 main_v19 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v20 ((extractStridedSlice S8x64x64x64 ![0, 0, 0, 2] · slices_S8x64x66x66_S8x64x64x64_0_0_0_2) : (⟨S8x64x66x66, .f32⟩ : BufTy).Contents (Elt F) → (⟨S8x64x64x64, .f32⟩ : BufTy).Contents (Elt F)),
    unary main_arg3 main_v21 ((extractStridedSlice S100x64x1x1 ![0, 0, 0, 2] · slices_S100x64x3x3_S100x64x1x1_0_0_0_2) : (⟨S100x64x3x3, .f32⟩ : BufTy).Contents (Elt F) → (⟨S100x64x1x1, .f32⟩ : BufTy).Contents (Elt F)),
    reshape main_v21 main_v22 (rfl : (.f32 : EltTy) = .f32) shapeCasts_S100x64x1x1_S100x64,
    binary main_v22 main_v20 main_v23 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v23 main_v24 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v19 main_v24 main_v25 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v26 ((extractStridedSlice S8x64x64x64 ![0, 0, 1, 0] · slices_S8x64x66x66_S8x64x64x64_0_0_1_0) : (⟨S8x64x66x66, .f32⟩ : BufTy).Contents (Elt F) → (⟨S8x64x64x64, .f32⟩ : BufTy).Contents (Elt F)),
    unary main_arg3 main_v27 ((extractStridedSlice S100x64x1x1 ![0, 0, 1, 0] · slices_S100x64x3x3_S100x64x1x1_0_0_1_0) : (⟨S100x64x3x3, .f32⟩ : BufTy).Contents (Elt F) → (⟨S100x64x1x1, .f32⟩ : BufTy).Contents (Elt F)),
    reshape main_v27 main_v28 (rfl : (.f32 : EltTy) = .f32) shapeCasts_S100x64x1x1_S100x64,
    binary main_v28 main_v26 main_v29 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v29 main_v30 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v25 main_v30 main_v31 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v32 ((extractStridedSlice S8x64x64x64 ![0, 0, 1, 1] · slices_S8x64x66x66_S8x64x64x64_0_0_1_1) : (⟨S8x64x66x66, .f32⟩ : BufTy).Contents (Elt F) → (⟨S8x64x64x64, .f32⟩ : BufTy).Contents (Elt F)),
    unary main_arg3 main_v33 ((extractStridedSlice S100x64x1x1 ![0, 0, 1, 1] · slices_S100x64x3x3_S100x64x1x1_0_0_1_1) : (⟨S100x64x3x3, .f32⟩ : BufTy).Contents (Elt F) → (⟨S100x64x1x1, .f32⟩ : BufTy).Contents (Elt F)),
    reshape main_v33 main_v34 (rfl : (.f32 : EltTy) = .f32) shapeCasts_S100x64x1x1_S100x64,
    binary main_v34 main_v32 main_v35 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v35 main_v36 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v31 main_v36 main_v37 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v38 ((extractStridedSlice S8x64x64x64 ![0, 0, 1, 2] · slices_S8x64x66x66_S8x64x64x64_0_0_1_2) : (⟨S8x64x66x66, .f32⟩ : BufTy).Contents (Elt F) → (⟨S8x64x64x64, .f32⟩ : BufTy).Contents (Elt F)),
    unary main_arg3 main_v39 ((extractStridedSlice S100x64x1x1 ![0, 0, 1, 2] · slices_S100x64x3x3_S100x64x1x1_0_0_1_2) : (⟨S100x64x3x3, .f32⟩ : BufTy).Contents (Elt F) → (⟨S100x64x1x1, .f32⟩ : BufTy).Contents (Elt F)),
    reshape main_v39 main_v40 (rfl : (.f32 : EltTy) = .f32) shapeCasts_S100x64x1x1_S100x64,
    binary main_v40 main_v38 main_v41 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v41 main_v42 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v37 main_v42 main_v43 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v44 ((extractStridedSlice S8x64x64x64 ![0, 0, 2, 0] · slices_S8x64x66x66_S8x64x64x64_0_0_2_0) : (⟨S8x64x66x66, .f32⟩ : BufTy).Contents (Elt F) → (⟨S8x64x64x64, .f32⟩ : BufTy).Contents (Elt F)),
    unary main_arg3 main_v45 ((extractStridedSlice S100x64x1x1 ![0, 0, 2, 0] · slices_S100x64x3x3_S100x64x1x1_0_0_2_0) : (⟨S100x64x3x3, .f32⟩ : BufTy).Contents (Elt F) → (⟨S100x64x1x1, .f32⟩ : BufTy).Contents (Elt F)),
    reshape main_v45 main_v46 (rfl : (.f32 : EltTy) = .f32) shapeCasts_S100x64x1x1_S100x64,
    binary main_v46 main_v44 main_v47 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v47 main_v48 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v43 main_v48 main_v49 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v50 ((extractStridedSlice S8x64x64x64 ![0, 0, 2, 1] · slices_S8x64x66x66_S8x64x64x64_0_0_2_1) : (⟨S8x64x66x66, .f32⟩ : BufTy).Contents (Elt F) → (⟨S8x64x64x64, .f32⟩ : BufTy).Contents (Elt F)),
    unary main_arg3 main_v51 ((extractStridedSlice S100x64x1x1 ![0, 0, 2, 1] · slices_S100x64x3x3_S100x64x1x1_0_0_2_1) : (⟨S100x64x3x3, .f32⟩ : BufTy).Contents (Elt F) → (⟨S100x64x1x1, .f32⟩ : BufTy).Contents (Elt F)),
    reshape main_v51 main_v52 (rfl : (.f32 : EltTy) = .f32) shapeCasts_S100x64x1x1_S100x64,
    binary main_v52 main_v50 main_v53 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v53 main_v54 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v49 main_v54 main_v55 (addf : (⟨S8x100x64x64, .f32⟩ : BufTy).Contents (Elt F) → (⟨S8x100x64x64, .f32⟩ : BufTy).Contents (Elt F) → (⟨S8x100x64x64, .f32⟩ : BufTy).Contents (Elt F)),
    unary main_v6 main_v56 ((extractStridedSlice S8x64x64x64 ![0, 0, 2, 2] · slices_S8x64x66x66_S8x64x64x64_0_0_2_2) : (⟨S8x64x66x66, .f32⟩ : BufTy).Contents (Elt F) → (⟨S8x64x64x64, .f32⟩ : BufTy).Contents (Elt F)),
    unary main_arg3 main_v57 ((extractStridedSlice S100x64x1x1 ![0, 0, 2, 2] · slices_S100x64x3x3_S100x64x1x1_0_0_2_2) : (⟨S100x64x3x3, .f32⟩ : BufTy).Contents (Elt F) → (⟨S100x64x1x1, .f32⟩ : BufTy).Contents (Elt F)),
    reshape main_v57 main_v58 (rfl : (.f32 : EltTy) = .f32) shapeCasts_S100x64x1x1_S100x64,
    binary main_v58 main_v56 main_v59 ((fun l r => Host.dotGeneral dot_S100x64_S8x64x64x64_S100x8x64x64_1_1_0_023_n_n none l r) : (⟨S100x64, .f32⟩ : BufTy).Contents (Elt F) → (⟨S8x64x64x64, .f32⟩ : BufTy).Contents (Elt F) → (⟨S100x8x64x64, .f32⟩ : BufTy).Contents (Elt F)),
    unary main_v59 main_v60 ((transpose S8x100x64x64 [1, 0, 2, 3] · transposes_S100x8x64x64_S8x100x64x64_1_0_2_3) : (⟨S100x8x64x64, .f32⟩ : BufTy).Contents (Elt F) → (⟨S8x100x64x64, .f32⟩ : BufTy).Contents (Elt F)),
    binary main_v55 main_v60 main_v61 (addf : (⟨S8x100x64x64, .f32⟩ : BufTy).Contents (Elt F) → (⟨S8x100x64x64, .f32⟩ : BufTy).Contents (Elt F) → (⟨S8x100x64x64, .f32⟩ : BufTy).Contents (Elt F)),
    unary main_arg4 main_v62 (broadcastInDim S1x100x1x1 ![1] bcast_S100_S1x100x1x1_1 : (⟨S100, .f32⟩ : BufTy).Contents (Elt F) → (⟨S1x100x1x1, .f32⟩ : BufTy).Contents (Elt F)),
    unary main_v62 main_v63 (broadcastInDim S8x100x64x64 ![0, 1, 2, 3] bcast_S1x100x1x1_S8x100x64x64_0_1_2_3 : (⟨S1x100x1x1, .f32⟩ : BufTy).Contents (Elt F) → (⟨S8x100x64x64, .f32⟩ : BufTy).Contents (Elt F)),
    binary main_v61 main_v63 main_v64 (addf : (⟨S8x100x64x64, .f32⟩ : BufTy).Contents (Elt F) → (⟨S8x100x64x64, .f32⟩ : BufTy).Contents (Elt F) → (⟨S8x100x64x64, .f32⟩ : BufTy).Contents (Elt F)) ]

set_option maxHeartbeats 4000000 in
/-- Stretch C: the pixel shuffle and the softmax. -/
abbrev opsC : List (HloOp τ sig (Elt F)) :=
  [ reshape main_v64 main_v65 (rfl : (.f32 : EltTy) = .f32) shapeCasts_S8x100x64x64_S8x25x2x2x64x64,
    unary main_v65 main_v66 ((transpose S8x25x64x2x64x2 [0, 1, 4, 2, 5, 3] · transposes_S8x25x2x2x64x64_S8x25x64x2x64x2_0_1_4_2_5_3) : (⟨S8x25x2x2x64x64, .f32⟩ : BufTy).Contents (Elt F) → (⟨S8x25x64x2x64x2, .f32⟩ : BufTy).Contents (Elt F)),
    reshape main_v66 main_v67 (rfl : (.f32 : EltTy) = .f32) shapeCasts_S8x25x64x2x64x2_S8x25x128x128 ]

set_option maxHeartbeats 4000000 in
/-- Stretch M: the largest logit of each output pixel. -/
abbrev opsM : List (HloOp τ sig (Elt F)) :=
  [ nullary main_cst_0 (constant S_ .f32 0xFF800000#32),
    binary main_v67 main_cst_0 main_v68 ((fun x v => Host.reduce FloatOps.maximumf x v reducesTo_S8x25x128x128_S8x128x128_d1 h_S_) : (⟨S8x25x128x128, .f32⟩ : BufTy).Contents (Elt F) → (⟨S_, .f32⟩ : BufTy).Contents (Elt F) → (⟨S8x128x128, .f32⟩ : BufTy).Contents (Elt F)),
    nullary main_cst_1 (constant S_ .f32 0xFF800000#32),
    unary main_cst_1 main_v69 (broadcastInDim S8x128x128 ![] bcast_S_S8x128x128 : (⟨S_, .f32⟩ : BufTy).Contents (Elt F) → (⟨S8x128x128, .f32⟩ : BufTy).Contents (Elt F)),
    binary main_v69 main_v68 main_v70 (maximumf : (⟨S8x128x128, .f32⟩ : BufTy).Contents (Elt F) → (⟨S8x128x128, .f32⟩ : BufTy).Contents (Elt F) → (⟨S8x128x128, .f32⟩ : BufTy).Contents (Elt F)) ]

set_option maxHeartbeats 4000000 in
/-- Stretch X: the shifted exponentials. -/
abbrev opsX : List (HloOp τ sig (Elt F)) :=
  [ unary main_v70 main_v71 (broadcastInDim S8x1x128x128 ![0, 2, 3] bcast_S8x128x128_S8x1x128x128_0_2_3 : (⟨S8x128x128, .f32⟩ : BufTy).Contents (Elt F) → (⟨S8x1x128x128, .f32⟩ : BufTy).Contents (Elt F)),
    unary main_v71 main_v72 (broadcastInDim S8x25x128x128 ![0, 1, 2, 3] bcast_S8x1x128x128_S8x25x128x128_0_1_2_3 : (⟨S8x1x128x128, .f32⟩ : BufTy).Contents (Elt F) → (⟨S8x25x128x128, .f32⟩ : BufTy).Contents (Elt F)),
    binary main_v67 main_v72 main_v73 (subf : (⟨S8x25x128x128, .f32⟩ : BufTy).Contents (Elt F) → (⟨S8x25x128x128, .f32⟩ : BufTy).Contents (Elt F) → (⟨S8x25x128x128, .f32⟩ : BufTy).Contents (Elt F)),
    unary main_v73 main_v74 (Host.exp : (⟨S8x25x128x128, .f32⟩ : BufTy).Contents (Elt F) → (⟨S8x25x128x128, .f32⟩ : BufTy).Contents (Elt F)) ]

set_option maxHeartbeats 4000000 in
/-- Stretch S: the exponentials over their sum. -/
abbrev opsS : List (HloOp τ sig (Elt F)) :=
  [ nullary main_cst_2 (constant S_ .f32 0x00000000#32),
    binary main_v74 main_cst_2 main_v75 ((fun x v => Host.reduceAdd x v reducesTo_S8x25x128x128_S8x128x128_d1 h_S_) : (⟨S8x25x128x128, .f32⟩ : BufTy).Contents (Elt F) → (⟨S_, .f32⟩ : BufTy).Contents (Elt F) → (⟨S8x128x128, .f32⟩ : BufTy).Contents (Elt F)),
    unary main_v75 main_v76 (broadcastInDim S8x1x128x128 ![0, 2, 3] bcast_S8x128x128_S8x1x128x128_0_2_3 : (⟨S8x128x128, .f32⟩ : BufTy).Contents (Elt F) → (⟨S8x1x128x128, .f32⟩ : BufTy).Contents (Elt F)),
    unary main_v76 main_v77 (broadcastInDim S8x25x128x128 ![0, 1, 2, 3] bcast_S8x1x128x128_S8x25x128x128_0_1_2_3 : (⟨S8x1x128x128, .f32⟩ : BufTy).Contents (Elt F) → (⟨S8x25x128x128, .f32⟩ : BufTy).Contents (Elt F)),
    binary main_v74 main_v77 main_v78 (Host.divf : (⟨S8x25x128x128, .f32⟩ : BufTy).Contents (Elt F) → (⟨S8x25x128x128, .f32⟩ : BufTy).Contents (Elt F) → (⟨S8x25x128x128, .f32⟩ : BufTy).Contents (Elt F)) ]

set_option maxHeartbeats 4000000 in
/-- Stretch D: the twenty-five shifted views. -/
abbrev opsD : List (HloOp τ sig (Elt F)) :=
  [ nullary main_c_3 (constantI S_ 32 0#32),
    TRef.unary (TRef.of (T := ⟨S_, .i32⟩) main_c_3) (TRef.of (T := ⟨S_, .f32⟩) main_call1_v0) (sitofp .f32),
    TRef.binary (TRef.of (T := ⟨S8x128x64x64, .f32⟩) main_arg0) (TRef.of (T := ⟨S_, .f32⟩) main_call1_v0) (TRef.of (T := ⟨S8x128x68x68, .f32⟩) main_v79) (fun x v => pad S8x128x68x68 ![0, 0, 2, 2] ![0, 0, 2, 2] ![0, 0, 0, 0] x v pads_S8x128x64x64_S8x128x68x68_000_000_220_220 h_S_),
    unary main_v79 main_v80 ((extractStridedSlice S8x128x64x64 ![0, 0, 0, 0] · slices_S8x128x68x68_S8x128x64x64_0_0_0_0) : (⟨S8x128x68x68, .f32⟩ : BufTy).Contents (Elt F) → (⟨S8x128x64x64, .f32⟩ : BufTy).Contents (Elt F)),
    unary main_v79 main_v81 ((extractStridedSlice S8x128x64x64 ![0, 0, 0, 1] · slices_S8x128x68x68_S8x128x64x64_0_0_0_1) : (⟨S8x128x68x68, .f32⟩ : BufTy).Contents (Elt F) → (⟨S8x128x64x64, .f32⟩ : BufTy).Contents (Elt F)),
    unary main_v79 main_v82 ((extractStridedSlice S8x128x64x64 ![0, 0, 0, 2] · slices_S8x128x68x68_S8x128x64x64_0_0_0_2) : (⟨S8x128x68x68, .f32⟩ : BufTy).Contents (Elt F) → (⟨S8x128x64x64, .f32⟩ : BufTy).Contents (Elt F)),
    unary main_v79 main_v83 ((extractStridedSlice S8x128x64x64 ![0, 0, 0, 3] · slices_S8x128x68x68_S8x128x64x64_0_0_0_3) : (⟨S8x128x68x68, .f32⟩ : BufTy).Contents (Elt F) → (⟨S8x128x64x64, .f32⟩ : BufTy).Contents (Elt F)),
    unary main_v79 main_v84 ((extractStridedSlice S8x128x64x64 ![0, 0, 0, 4] · slices_S8x128x68x68_S8x128x64x64_0_0_0_4) : (⟨S8x128x68x68, .f32⟩ : BufTy).Contents (Elt F) → (⟨S8x128x64x64, .f32⟩ : BufTy).Contents (Elt F)),
    unary main_v79 main_v85 ((extractStridedSlice S8x128x64x64 ![0, 0, 1, 0] · slices_S8x128x68x68_S8x128x64x64_0_0_1_0) : (⟨S8x128x68x68, .f32⟩ : BufTy).Contents (Elt F) → (⟨S8x128x64x64, .f32⟩ : BufTy).Contents (Elt F)),
    unary main_v79 main_v86 ((extractStridedSlice S8x128x64x64 ![0, 0, 1, 1] · slices_S8x128x68x68_S8x128x64x64_0_0_1_1) : (⟨S8x128x68x68, .f32⟩ : BufTy).Contents (Elt F) → (⟨S8x128x64x64, .f32⟩ : BufTy).Contents (Elt F)),
    unary main_v79 main_v87 ((extractStridedSlice S8x128x64x64 ![0, 0, 1, 2] · slices_S8x128x68x68_S8x128x64x64_0_0_1_2) : (⟨S8x128x68x68, .f32⟩ : BufTy).Contents (Elt F) → (⟨S8x128x64x64, .f32⟩ : BufTy).Contents (Elt F)),
    unary main_v79 main_v88 ((extractStridedSlice S8x128x64x64 ![0, 0, 1, 3] · slices_S8x128x68x68_S8x128x64x64_0_0_1_3) : (⟨S8x128x68x68, .f32⟩ : BufTy).Contents (Elt F) → (⟨S8x128x64x64, .f32⟩ : BufTy).Contents (Elt F)),
    unary main_v79 main_v89 ((extractStridedSlice S8x128x64x64 ![0, 0, 1, 4] · slices_S8x128x68x68_S8x128x64x64_0_0_1_4) : (⟨S8x128x68x68, .f32⟩ : BufTy).Contents (Elt F) → (⟨S8x128x64x64, .f32⟩ : BufTy).Contents (Elt F)),
    unary main_v79 main_v90 ((extractStridedSlice S8x128x64x64 ![0, 0, 2, 0] · slices_S8x128x68x68_S8x128x64x64_0_0_2_0) : (⟨S8x128x68x68, .f32⟩ : BufTy).Contents (Elt F) → (⟨S8x128x64x64, .f32⟩ : BufTy).Contents (Elt F)),
    unary main_v79 main_v91 ((extractStridedSlice S8x128x64x64 ![0, 0, 2, 1] · slices_S8x128x68x68_S8x128x64x64_0_0_2_1) : (⟨S8x128x68x68, .f32⟩ : BufTy).Contents (Elt F) → (⟨S8x128x64x64, .f32⟩ : BufTy).Contents (Elt F)),
    unary main_v79 main_v92 ((extractStridedSlice S8x128x64x64 ![0, 0, 2, 2] · slices_S8x128x68x68_S8x128x64x64_0_0_2_2) : (⟨S8x128x68x68, .f32⟩ : BufTy).Contents (Elt F) → (⟨S8x128x64x64, .f32⟩ : BufTy).Contents (Elt F)),
    unary main_v79 main_v93 ((extractStridedSlice S8x128x64x64 ![0, 0, 2, 3] · slices_S8x128x68x68_S8x128x64x64_0_0_2_3) : (⟨S8x128x68x68, .f32⟩ : BufTy).Contents (Elt F) → (⟨S8x128x64x64, .f32⟩ : BufTy).Contents (Elt F)),
    unary main_v79 main_v94 ((extractStridedSlice S8x128x64x64 ![0, 0, 2, 4] · slices_S8x128x68x68_S8x128x64x64_0_0_2_4) : (⟨S8x128x68x68, .f32⟩ : BufTy).Contents (Elt F) → (⟨S8x128x64x64, .f32⟩ : BufTy).Contents (Elt F)),
    unary main_v79 main_v95 ((extractStridedSlice S8x128x64x64 ![0, 0, 3, 0] · slices_S8x128x68x68_S8x128x64x64_0_0_3_0) : (⟨S8x128x68x68, .f32⟩ : BufTy).Contents (Elt F) → (⟨S8x128x64x64, .f32⟩ : BufTy).Contents (Elt F)),
    unary main_v79 main_v96 ((extractStridedSlice S8x128x64x64 ![0, 0, 3, 1] · slices_S8x128x68x68_S8x128x64x64_0_0_3_1) : (⟨S8x128x68x68, .f32⟩ : BufTy).Contents (Elt F) → (⟨S8x128x64x64, .f32⟩ : BufTy).Contents (Elt F)),
    unary main_v79 main_v97 ((extractStridedSlice S8x128x64x64 ![0, 0, 3, 2] · slices_S8x128x68x68_S8x128x64x64_0_0_3_2) : (⟨S8x128x68x68, .f32⟩ : BufTy).Contents (Elt F) → (⟨S8x128x64x64, .f32⟩ : BufTy).Contents (Elt F)),
    unary main_v79 main_v98 ((extractStridedSlice S8x128x64x64 ![0, 0, 3, 3] · slices_S8x128x68x68_S8x128x64x64_0_0_3_3) : (⟨S8x128x68x68, .f32⟩ : BufTy).Contents (Elt F) → (⟨S8x128x64x64, .f32⟩ : BufTy).Contents (Elt F)),
    unary main_v79 main_v99 ((extractStridedSlice S8x128x64x64 ![0, 0, 3, 4] · slices_S8x128x68x68_S8x128x64x64_0_0_3_4) : (⟨S8x128x68x68, .f32⟩ : BufTy).Contents (Elt F) → (⟨S8x128x64x64, .f32⟩ : BufTy).Contents (Elt F)),
    unary main_v79 main_v100 ((extractStridedSlice S8x128x64x64 ![0, 0, 4, 0] · slices_S8x128x68x68_S8x128x64x64_0_0_4_0) : (⟨S8x128x68x68, .f32⟩ : BufTy).Contents (Elt F) → (⟨S8x128x64x64, .f32⟩ : BufTy).Contents (Elt F)),
    unary main_v79 main_v101 ((extractStridedSlice S8x128x64x64 ![0, 0, 4, 1] · slices_S8x128x68x68_S8x128x64x64_0_0_4_1) : (⟨S8x128x68x68, .f32⟩ : BufTy).Contents (Elt F) → (⟨S8x128x64x64, .f32⟩ : BufTy).Contents (Elt F)),
    unary main_v79 main_v102 ((extractStridedSlice S8x128x64x64 ![0, 0, 4, 2] · slices_S8x128x68x68_S8x128x64x64_0_0_4_2) : (⟨S8x128x68x68, .f32⟩ : BufTy).Contents (Elt F) → (⟨S8x128x64x64, .f32⟩ : BufTy).Contents (Elt F)),
    unary main_v79 main_v103 ((extractStridedSlice S8x128x64x64 ![0, 0, 4, 3] · slices_S8x128x68x68_S8x128x64x64_0_0_4_3) : (⟨S8x128x68x68, .f32⟩ : BufTy).Contents (Elt F) → (⟨S8x128x64x64, .f32⟩ : BufTy).Contents (Elt F)),
    unary main_v79 main_v104 ((extractStridedSlice S8x128x64x64 ![0, 0, 4, 4] · slices_S8x128x68x68_S8x128x64x64_0_0_4_4) : (⟨S8x128x68x68, .f32⟩ : BufTy).Contents (Elt F) → (⟨S8x128x64x64, .f32⟩ : BufTy).Contents (Elt F)),
    unary main_v80 main_v105 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v81 main_v106 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v82 main_v107 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v83 main_v108 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v84 main_v109 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v85 main_v110 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v86 main_v111 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v87 main_v112 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v88 main_v113 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v89 main_v114 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v90 main_v115 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v91 main_v116 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v92 main_v117 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v93 main_v118 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v94 main_v119 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v95 main_v120 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v96 main_v121 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v97 main_v122 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v98 main_v123 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v99 main_v124 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v100 main_v125 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v101 main_v126 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v102 main_v127 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v103 main_v128 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)),
    unary main_v104 main_v129 (broadcastInDim S8x128x1x64x64 ![0, 1, 3, 4] bcast_S8x128x64x64_S8x128x1x64x64_0_1_3_4 : (⟨S8x128x64x64, .f32⟩ : BufTy).Contents (Elt F) → (⟨S8x128x1x64x64, .f32⟩ : BufTy).Contents (Elt F)) ]

set_option maxHeartbeats 4000000 in
/-- Stretch E: the nearest upsampling and the weighted sum. -/
abbrev opsE : List (HloOp τ sig (Elt F)) :=
  [ nary ![main_v105, main_v106, main_v107, main_v108, main_v109, main_v110, main_v111, main_v112, main_v113, main_v114, main_v115, main_v116, main_v117, main_v118, main_v119, main_v120] main_v130 (fun u => fn_main_v130 (F := F) (u 0) (u 1) (u 2) (u 3) (u 4) (u 5) (u 6) (u 7) (u 8) (u 9) (u 10) (u 11) (u 12) (u 13) (u 14) (u 15)),
    nary ![main_v121, main_v122, main_v123, main_v124, main_v125, main_v126, main_v127, main_v128, main_v129] main_v131 (fun u => fn_main_v131 (F := F) (u 0) (u 1) (u 2) (u 3) (u 4) (u 5) (u 6) (u 7) (u 8)),
    binary main_v130 main_v131 main_v132 (fn_main_v132 (F := F)),
    unary main_v132 main_v133 (broadcastInDim S8x128x25x64x2x64 ![0, 1, 2, 3, 5] bcast_S8x128x25x64x64_S8x128x25x64x2x64_0_1_2_3_5 : (⟨S8x128x25x64x64, .f32⟩ : BufTy).Contents (Elt F) → (⟨S8x128x25x64x2x64, .f32⟩ : BufTy).Contents (Elt F)),
    reshape main_v133 main_v134 (rfl : (.f32 : EltTy) = .f32) shapeCasts_S8x128x25x64x2x64_S8x128x25x128x64,
    unary main_v134 main_v135 (broadcastInDim S8x128x25x128x64x2 ![0, 1, 2, 3, 4] bcast_S8x128x25x128x64_S8x128x25x128x64x2_0_1_2_3_4 : (⟨S8x128x25x128x64, .f32⟩ : BufTy).Contents (Elt F) → (⟨S8x128x25x128x64x2, .f32⟩ : BufTy).Contents (Elt F)),
    reshape main_v135 main_v136 (rfl : (.f32 : EltTy) = .f32) shapeCasts_S8x128x25x128x64x2_S8x128x25x128x128,
    unary main_v78 main_v137 (broadcastInDim S8x1x25x128x128 ![0, 2, 3, 4] bcast_S8x25x128x128_S8x1x25x128x128_0_2_3_4 : (⟨S8x25x128x128, .f32⟩ : BufTy).Contents (Elt F) → (⟨S8x1x25x128x128, .f32⟩ : BufTy).Contents (Elt F)),
    unary main_v137 main_v138 (broadcastInDim S8x128x25x128x128 ![0, 1, 2, 3, 4] bcast_S8x1x25x128x128_S8x128x25x128x128_0_1_2_3_4 : (⟨S8x1x25x128x128, .f32⟩ : BufTy).Contents (Elt F) → (⟨S8x128x25x128x128, .f32⟩ : BufTy).Contents (Elt F)),
    binary main_v136 main_v138 main_v139 (mulf : (⟨S8x128x25x128x128, .f32⟩ : BufTy).Contents (Elt F) → (⟨S8x128x25x128x128, .f32⟩ : BufTy).Contents (Elt F) → (⟨S8x128x25x128x128, .f32⟩ : BufTy).Contents (Elt F)),
    nullary main_cst_4 (constant S_ .f32 0x00000000#32),
    binary main_v139 main_cst_4 main_v140 ((fun x v => Host.reduceAdd x v reducesTo_S8x128x25x128x128_S8x128x128x128_d2 h_S_) : (⟨S8x128x25x128x128, .f32⟩ : BufTy).Contents (Elt F) → (⟨S_, .f32⟩ : BufTy).Contents (Elt F) → (⟨S8x128x128x128, .f32⟩ : BufTy).Contents (Elt F)) ]

/-- All the reference's operations, in order. -/
abbrev ops : List (HloOp τ sig (Elt F)) := opsA ++ (opsB ++ (opsC ++ (opsM ++ (opsX ++ (opsS ++ (opsD ++ opsE))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
set_option maxHeartbeats 4000000 in
theorem ops_sub : (ops : List (HloOp τ sig (Elt F))).Forall fun op => op.bufs ⊆ tcRefs τ sig :=
  ⟨reshape_bufs_sub .., binary_bufs_sub .., unary_bufs_sub .., unary_bufs_sub .., unary_bufs_sub .., binary_bufs_sub .., nullary_bufs_sub .., unary_bufs_sub .., binary_bufs_sub .., unary_bufs_sub .., unary_bufs_sub .., reshape_bufs_sub .., binary_bufs_sub .., unary_bufs_sub .., nullary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., reshape_bufs_sub .., binary_bufs_sub .., unary_bufs_sub .., binary_bufs_sub .., unary_bufs_sub .., unary_bufs_sub .., binary_bufs_sub .., reshape_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., binary_bufs_sub .., unary_bufs_sub .., reshape_bufs_sub .., unary_bufs_sub .., reshape_bufs_sub .., unary_bufs_sub .., unary_bufs_sub .., binary_bufs_sub .., nullary_bufs_sub .., binary_bufs_sub ..⟩

/-- What a launch's memory holds after the eight stretches. -/
def fin (m : (ℓ : Loc nD τ sig) → Buf (Elt F) ℓ) (c : Dev nD) : Valuation τ sig (Elt F) :=
  after opsE (after opsD (after opsS (after opsX (after opsM (after opsC (after opsB (after opsA (launchContents m c))))))))

set_option maxRecDepth 8192 in
set_option maxHeartbeats 4000000 in
/-- Every execution of the reference ends with each buffer at what the eight stretches leave in it. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = fin m c (Proc.devRef .tc b) :=
  (θ_run defs _ _).mono (fun _ h c b => (h c b).trans (by simp only [ops, after_append]; rfl))
    (run_seq scopedRefs_eq scopedSems_eq defs main (fun _ => ops) main_eq (fun _ => ops_sub) m ρ)

end Cert.Ref
-- ==== Proof.RefVal.lean ====
module

public import proofs.«01_k».proof.Proof.RefRun
public import proofs.«01_k».proof.Proof.Carafe
public import Idealize.ShloMosaic.Lib.Pointwise

/-! What the reference's stretches leave, read at an index. -/

@[expose] public section

set_option maxRecDepth 16384

noncomputable section

namespace Cert.Ref

open Cert.ReferenceIdeal Cert.ReferenceIdeal.Gen Idealize.ShloMosaic Idealize.ShloMosaic.TcCoe Idealize.ShloMosaic.StableHlo Cert.Carafe

/-- The arguments of a valuation, by coordinates. -/
abbrev aX (V : Valuation τ sig (Elt Ideal)) : Fin 8 → Fin 128 → Fin 64 → Fin 64 → EReal := fun b k r w => V (Proc.devRef .tc main_arg0) (ix4 b k r w)
abbrev aW (V : Valuation τ sig (Elt Ideal)) : Fin 64 → Fin 128 → EReal := fun m k => V (Proc.devRef .tc main_arg1) (ix4 m k 0 0)
abbrev aB (V : Valuation τ sig (Elt Ideal)) : Fin 64 → EReal := fun m => V (Proc.devRef .tc main_arg2) (ix1 m)
abbrev aE (V : Valuation τ sig (Elt Ideal)) : Fin 100 → Fin 64 → Fin 3 → Fin 3 → EReal := fun o m i j => V (Proc.devRef .tc main_arg3) (ix4 o m i j)
abbrev aD (V : Valuation τ sig (Elt Ideal)) : Fin 100 → EReal := fun o => V (Proc.devRef .tc main_arg4) (ix1 o)

theorem sitofp_zero : (FloatOps.sitofp (F := Ideal) FTy.f32 0#32 : EReal) = 0 := by
  show (((0#32 : BitVec 32).toInt : ℝ) : EReal) = 0
  simp

set_option maxHeartbeats 2000000 in
/-- The first stretch leaves the framed compressed map. -/
theorem A_at (V : Valuation τ sig (Elt Ideal)) (b : Fin 8) (m : Fin 64) (r c : Fin 66) :
    (after opsA V (Proc.devRef .tc main_v6) (ix4 b m r c) : EReal) = comp (aX V) (aW V) (aB V) b m r c := by
  after_reads_at
  rw [sitofp_zero]
  unfold comp
  by_cases h : (1 ≤ (r : ℕ) ∧ (r : ℕ) < 65) ∧ (1 ≤ (c : ℕ) ∧ (c : ℕ) < 65)
  · rw [dif_pos (by omega), dif_pos h]
  · rw [dif_neg (by omega), dif_neg h]

set_option maxHeartbeats 4000000 in
/-- The second stretch leaves the logits. -/
theorem B_at (V : Valuation τ sig (Elt Ideal)) (P : Fin 64 → ℕ → ℕ → EReal) (b : Fin 8) (o : Fin 100) (h w : Fin 64)
    (hP : ∀ (m : Fin 64) (r c : Fin 66), (V (Proc.devRef .tc main_v6) (ix4 b m r c) : EReal) = P m r c) :
    (after opsB V (Proc.devRef .tc main_v64) (ix4 b o h w) : EReal) = logit P (aE V) (aD V) o h w := by
  after_reads_at
  simp only [hP]
  simp only [logit, Fin.sum_univ_three, Fin.val_zero, Fin.val_one, Fin.val_two, Nat.zero_add, ← add_assoc]

set_option maxHeartbeats 4000000 in
/-- The third stretch shuffles the channels into output pixels. -/
theorem C_at (V : Valuation τ sig (Elt Ideal)) (b : Fin 8) (t : Fin 25) (oh ow : Fin 128) :
    (after opsC V (Proc.devRef .tc main_v67) (ix4 b t oh ow) : EReal)
      = V (Proc.devRef .tc main_v64) (ix4 b (lane oh ow t) ⟨oh / 2, by omega⟩ ⟨ow / 2, by omega⟩) := by
  after_reads_at
  congr 2
  simp only [lane, Fin.mk.injEq]
  omega

theorem ofBits_bot : (Ideal.ofBits FTy.f32 4286578688#32 : EReal) = ⊥ := by
  simp [Ideal.ofBits, Ideal.ieee]

/-- The largest of the taps, as the reference takes it. -/
noncomputable def top (x : FVec Ideal S8x25x128x128 .f32) : FVec Ideal S8x128x128 .f32 :=
  Host.reduce FloatOps.maximumf x (constant S_ .f32 0xFF800000#32 : FVec Ideal S_ .f32) reducesTo_S8x25x128x128_S8x128x128_d1 h_S_

/-- A maximum over axis 1 of four, at an index, at any sizes. -/
theorem reduce_max_at {a n c d : ℕ} (x : FVec Ideal ⟨4, ![a, n, c, d]⟩ .f32) (v : FVec Ideal S_ .f32)
    (h : (⟨4, ![a, n, c, d]⟩ : Shape).ReducesTo [1] ⟨3, ![a, c, d]⟩) (hu : 0 < S_.numel) (i : Fin a) (j : Fin c) (k : Fin d) :
    (Host.reduce (FloatOps.maximumf (F := Ideal) (φ := .f32)) x v h hu (ix3 i j k) : EReal) = Finset.univ.fold max (v (Shape.Idx.first hu) : EReal) fun s : Fin n => (x (ix4 i s j k) : EReal) := by
  pointwise

theorem top_at (x : FVec Ideal S8x25x128x128 .f32) (b : Fin 8) (oh ow : Fin 128) :
    (top x (ix3 b oh ow) : EReal) = Finset.univ.sup fun s : Fin 25 => (x (ix4 b s oh ow) : EReal) := by
  unfold top
  refine (reduce_max_at x _ _ _ b oh ow).trans ?_
  rw [show ((constant S_ .f32 0xFF800000#32 : FVec Ideal S_ .f32) (Shape.Idx.first h_S_) : EReal) = ⊥ from ofBits_bot]
  rfl

theorem max_bot_at (T : FVec Ideal S8x128x128 .f32) (i : S8x128x128.Idx) :
    (maximumf (broadcastInDim S8x128x128 ![] bcast_S_S8x128x128 (constant S_ .f32 0xFF800000#32 : FVec Ideal S_ .f32)) T i : EReal) = T i := by
  show max (Ideal.ofBits .f32 0xFF800000#32 : EReal) (T i) = T i
  rw [ofBits_bot]
  exact bot_sup_eq (T i : EReal)

theorem M_eq (V : Valuation τ sig (Elt Ideal)) : after opsM V (Proc.devRef .tc main_v70) = (maximumf (broadcastInDim S8x128x128 ![] bcast_S_S8x128x128 (constant S_ .f32 0xFF800000#32 : FVec Ideal S_ .f32)) (top (V (Proc.devRef .tc main_v67))) : FVec Ideal S8x128x128 .f32) := by
  unfold top
  after_reads_simp

/-- The largest logit of an output pixel. -/
theorem M_at (V : Valuation τ sig (Elt Ideal)) (l : Fin 25 → EReal) (b : Fin 8) (oh ow : Fin 128)
    (hl : ∀ s : Fin 25, (V (Proc.devRef .tc main_v67) (ix4 b s oh ow) : EReal) = l s) :
    (after opsM V (Proc.devRef .tc main_v70) (ix3 b oh ow) : EReal) = Finset.univ.sup l := by
  have h2 := top_at (V (Proc.devRef .tc main_v67)) b oh ow
  have h := M_eq V
  generalize top (V (Proc.devRef .tc main_v67)) = T at h h2
  rw [h]
  refine (max_bot_at T _).trans (h2.trans ?_)
  exact congrArg _ (funext hl)

set_option maxHeartbeats 4000000 in
/-- The shifted exponentials. -/
theorem X_at (V : Valuation τ sig (Elt Ideal)) (l : EReal) (M : EReal) (b : Fin 8) (s : Fin 25) (oh ow : Fin 128)
    (hl : (V (Proc.devRef .tc main_v67) (ix4 b s oh ow) : EReal) = l) (hM : (V (Proc.devRef .tc main_v70) (ix3 b oh ow) : EReal) = M) :
    (after opsX V (Proc.devRef .tc main_v74) (ix4 b s oh ow) : EReal) = Ideal.exp (l - M) := by
  after_reads_at
  rw [hl, hM]

set_option maxHeartbeats 4000000 in
/-- The exponentials over their sum. -/
theorem S_at (V : Valuation τ sig (Elt Ideal)) (e : Fin 25 → EReal) (b : Fin 8) (t : Fin 25) (oh ow : Fin 128)
    (he : ∀ s : Fin 25, (V (Proc.devRef .tc main_v74) (ix4 b s oh ow) : EReal) = e s) :
    (after opsS V (Proc.devRef .tc main_v78) (ix4 b t oh ow) : EReal) = Ideal.div (e t) (∑ s, e s) := by
  after_reads_at
  simp only [he]

end Cert.Ref
-- ==== Proof.RefSum.lean ====
module

public import proofs.«01_k».proof.Proof.RefVal
public import Idealize.ShloMosaic.Lib.Pointwise

/-! The reference's twenty-five shifted views, their stack and the weighted sum, read at an index. -/

@[expose] public section

set_option maxRecDepth 16384

noncomputable section

namespace Cert.Ref

open Cert.ReferenceIdeal Cert.ReferenceIdeal.Gen Idealize.ShloMosaic Idealize.ShloMosaic.TcCoe Idealize.ShloMosaic.StableHlo Cert.Carafe

theorem stackA_at (u : Fin 25 → FVec Ideal S8x128x1x64x64 .f32) (b : Fin 8) (c : Fin 128) (h w : Fin 64) (s : Fin 16) :
    (fn_main_v130 (F := Ideal) (u 0) (u 1) (u 2) (u 3) (u 4) (u 5) (u 6) (u 7) (u 8) (u 9) (u 10) (u 11) (u 12) (u 13) (u 14) (u 15) (ix5 b c s h w) : EReal) = u ⟨s, by omega⟩ (ix5 b c 0 h w) := by
  fin_cases s <;> pointwise [fn_main_v130] <;> rfl

theorem stackB_at (u : Fin 25 → FVec Ideal S8x128x1x64x64 .f32) (b : Fin 8) (c : Fin 128) (h w : Fin 64) (s : Fin 9) :
    (fn_main_v131 (F := Ideal) (u 16) (u 17) (u 18) (u 19) (u 20) (u 21) (u 22) (u 23) (u 24) (ix5 b c s h w) : EReal) = u ⟨16 + s, by omega⟩ (ix5 b c 0 h w) := by
  fin_cases s <;> pointwise [fn_main_v131] <;> rfl

/-- The stacked views, at an index: the view the tap names. -/
theorem stack_at (u : Fin 25 → FVec Ideal S8x128x1x64x64 .f32) (b : Fin 8) (c : Fin 128) (t : Fin 25) (h w : Fin 64) :
    (fn_main_v132 (F := Ideal) (fn_main_v130 (F := Ideal) (u 0) (u 1) (u 2) (u 3) (u 4) (u 5) (u 6) (u 7) (u 8) (u 9) (u 10) (u 11) (u 12) (u 13) (u 14) (u 15))
      (fn_main_v131 (F := Ideal) (u 16) (u 17) (u 18) (u 19) (u 20) (u 21) (u 22) (u 23) (u 24)) (ix5 b c t h w) : EReal) = u t (ix5 b c 0 h w) := by
  pointwise [fn_main_v132, stackA_at, stackB_at]
  split
  · rfl
  · congr 2
    omega

theorem D0_at (V : Valuation τ sig (Elt Ideal)) (b : Fin 8) (c : Fin 128) (h w : Fin 64) :
    (after opsD V (Proc.devRef .tc main_v105) (ix5 b c 0 h w) : EReal) = xq (aX V) b c ((h : ℕ)) ((w : ℕ)) := by
  after_reads_at
  unfold xq
  try rw [sitofp_zero]
  by_cases g : (2 ≤ (h : ℕ) ∧ (h : ℕ) < 66) ∧ (2 ≤ (w : ℕ) ∧ (w : ℕ) < 66)
  · first | rw [dif_pos (by omega), dif_pos g] | rw [dif_pos g]
    first | done | simp only [Nat.add_sub_cancel_left, Fin.eta]
  · first | rw [dif_neg (by omega), dif_neg g] | (exfalso; omega)

theorem D1_at (V : Valuation τ sig (Elt Ideal)) (b : Fin 8) (c : Fin 128) (h w : Fin 64) :
    (after opsD V (Proc.devRef .tc main_v106) (ix5 b c 0 h w) : EReal) = xq (aX V) b c ((h : ℕ)) (1 + (w : ℕ)) := by
  after_reads_at
  unfold xq
  try rw [sitofp_zero]
  by_cases g : (2 ≤ (h : ℕ) ∧ (h : ℕ) < 66) ∧ (2 ≤ 1 + (w : ℕ) ∧ 1 + (w : ℕ) < 66)
  · first | rw [dif_pos (by omega), dif_pos g] | rw [dif_pos g]
    first | done | simp only [Nat.add_sub_cancel_left, Fin.eta]
  · first | rw [dif_neg (by omega), dif_neg g] | (exfalso; omega)

theorem D2_at (V : Valuation τ sig (Elt Ideal)) (b : Fin 8) (c : Fin 128) (h w : Fin 64) :
    (after opsD V (Proc.devRef .tc main_v107) (ix5 b c 0 h w) : EReal) = xq (aX V) b c ((h : ℕ)) (2 + (w : ℕ)) := by
  after_reads_at
  unfold xq
  try rw [sitofp_zero]
  by_cases g : (2 ≤ (h : ℕ) ∧ (h : ℕ) < 66) ∧ (2 ≤ 2 + (w : ℕ) ∧ 2 + (w : ℕ) < 66)
  · first | rw [dif_pos (by omega), dif_pos g] | rw [dif_pos g]
    first | done | simp only [Nat.add_sub_cancel_left, Fin.eta]
  · first | rw [dif_neg (by omega), dif_neg g] | (exfalso; omega)

theorem D3_at (V : Valuation τ sig (Elt Ideal)) (b : Fin 8) (c : Fin 128) (h w : Fin 64) :
    (after opsD V (Proc.devRef .tc main_v108) (ix5 b c 0 h w) : EReal) = xq (aX V) b c ((h : ℕ)) (3 + (w : ℕ)) := by
  after_reads_at
  unfold xq
  try rw [sitofp_zero]
  by_cases g : (2 ≤ (h : ℕ) ∧ (h : ℕ) < 66) ∧ (2 ≤ 3 + (w : ℕ) ∧ 3 + (w : ℕ) < 66)
  · first | rw [dif_pos (by omega), dif_pos g] | rw [dif_pos g]
    first | done | simp only [Nat.add_sub_cancel_left, Fin.eta]
  · first | rw [dif_neg (by omega), dif_neg g] | (exfalso; omega)

theorem D4_at (V : Valuation τ sig (Elt Ideal)) (b : Fin 8) (c : Fin 128) (h w : Fin 64) :
    (after opsD V (Proc.devRef .tc main_v109) (ix5 b c 0 h w) : EReal) = xq (aX V) b c ((h : ℕ)) (4 + (w : ℕ)) := by
  after_reads_at
  unfold xq
  try rw [sitofp_zero]
  by_cases g : (2 ≤ (h : ℕ) ∧ (h : ℕ) < 66) ∧ (2 ≤ 4 + (w : ℕ) ∧ 4 + (w : ℕ) < 66)
  · first | rw [dif_pos (by omega), dif_pos g] | rw [dif_pos g]
    first | done | simp only [Nat.add_sub_cancel_left, Fin.eta]
  · first | rw [dif_neg (by omega), dif_neg g] | (exfalso; omega)

theorem D5_at (V : Valuation τ sig (Elt Ideal)) (b : Fin 8) (c : Fin 128) (h w : Fin 64) :
    (after opsD V (Proc.devRef .tc main_v110) (ix5 b c 0 h w) : EReal) = xq (aX V) b c (1 + (h : ℕ)) ((w : ℕ)) := by
  after_reads_at
  unfold xq
  try rw [sitofp_zero]
  by_cases g : (2 ≤ 1 + (h : ℕ) ∧ 1 + (h : ℕ) < 66) ∧ (2 ≤ (w : ℕ) ∧ (w : ℕ) < 66)
  · first | rw [dif_pos (by omega), dif_pos g] | rw [dif_pos g]
    first | done | simp only [Nat.add_sub_cancel_left, Fin.eta]
  · first | rw [dif_neg (by omega), dif_neg g] | (exfalso; omega)

theorem D6_at (V : Valuation τ sig (Elt Ideal)) (b : Fin 8) (c : Fin 128) (h w : Fin 64) :
    (after opsD V (Proc.devRef .tc main_v111) (ix5 b c 0 h w) : EReal) = xq (aX V) b c (1 + (h : ℕ)) (1 + (w : ℕ)) := by
  after_reads_at
  unfold xq
  try rw [sitofp_zero]
  by_cases g : (2 ≤ 1 + (h : ℕ) ∧ 1 + (h : ℕ) < 66) ∧ (2 ≤ 1 + (w : ℕ) ∧ 1 + (w : ℕ) < 66)
  · first | rw [dif_pos (by omega), dif_pos g] | rw [dif_pos g]
    first | done | simp only [Nat.add_sub_cancel_left, Fin.eta]
  · first | rw [dif_neg (by omega), dif_neg g] | (exfalso; omega)

theorem D7_at (V : Valuation τ sig (Elt Ideal)) (b : Fin 8) (c : Fin 128) (h w : Fin 64) :
    (after opsD V (Proc.devRef .tc main_v112) (ix5 b c 0 h w) : EReal) = xq (aX V) b c (1 + (h : ℕ)) (2 + (w : ℕ)) := by
  after_reads_at
  unfold xq
  try rw [sitofp_zero]
  by_cases g : (2 ≤ 1 + (h : ℕ) ∧ 1 + (h : ℕ) < 66) ∧ (2 ≤ 2 + (w : ℕ) ∧ 2 + (w : ℕ) < 66)
  · first | rw [dif_pos (by omega), dif_pos g] | rw [dif_pos g]
    first | done | simp only [Nat.add_sub_cancel_left, Fin.eta]
  · first | rw [dif_neg (by omega), dif_neg g] | (exfalso; omega)

theorem D8_at (V : Valuation τ sig (Elt Ideal)) (b : Fin 8) (c : Fin 128) (h w : Fin 64) :
    (after opsD V (Proc.devRef .tc main_v113) (ix5 b c 0 h w) : EReal) = xq (aX V) b c (1 + (h : ℕ)) (3 + (w : ℕ)) := by
  after_reads_at
  unfold xq
  try rw [sitofp_zero]
  by_cases g : (2 ≤ 1 + (h : ℕ) ∧ 1 + (h : ℕ) < 66) ∧ (2 ≤ 3 + (w : ℕ) ∧ 3 + (w : ℕ) < 66)
  · first | rw [dif_pos (by omega), dif_pos g] | rw [dif_pos g]
    first | done | simp only [Nat.add_sub_cancel_left, Fin.eta]
  · first | rw [dif_neg (by omega), dif_neg g] | (exfalso; omega)

theorem D9_at (V : Valuation τ sig (Elt Ideal)) (b : Fin 8) (c : Fin 128) (h w : Fin 64) :
    (after opsD V (Proc.devRef .tc main_v114) (ix5 b c 0 h w) : EReal) = xq (aX V) b c (1 + (h : ℕ)) (4 + (w : ℕ)) := by
  after_reads_at
  unfold xq
  try rw [sitofp_zero]
  by_cases g : (2 ≤ 1 + (h : ℕ) ∧ 1 + (h : ℕ) < 66) ∧ (2 ≤ 4 + (w : ℕ) ∧ 4 + (w : ℕ) < 66)
  · first | rw [dif_pos (by omega), dif_pos g] | rw [dif_pos g]
    first | done | simp only [Nat.add_sub_cancel_left, Fin.eta]
  · first | rw [dif_neg (by omega), dif_neg g] | (exfalso; omega)

theorem D10_at (V : Valuation τ sig (Elt Ideal)) (b : Fin 8) (c : Fin 128) (h w : Fin 64) :
    (after opsD V (Proc.devRef .tc main_v115) (ix5 b c 0 h w) : EReal) = xq (aX V) b c (2 + (h : ℕ)) ((w : ℕ)) := by
  after_reads_at
  unfold xq
  try rw [sitofp_zero]
  by_cases g : (2 ≤ 2 + (h : ℕ) ∧ 2 + (h : ℕ) < 66) ∧ (2 ≤ (w : ℕ) ∧ (w : ℕ) < 66)
  · first | rw [dif_pos (by omega), dif_pos g] | rw [dif_pos g]
    first | done | simp only [Nat.add_sub_cancel_left, Fin.eta]
  · first | rw [dif_neg (by omega), dif_neg g] | (exfalso; omega)

theorem D11_at (V : Valuation τ sig (Elt Ideal)) (b : Fin 8) (c : Fin 128) (h w : Fin 64) :
    (after opsD V (Proc.devRef .tc main_v116) (ix5 b c 0 h w) : EReal) = xq (aX V) b c (2 + (h : ℕ)) (1 + (w : ℕ)) := by
  after_reads_at
  unfold xq
  try rw [sitofp_zero]
  by_cases g : (2 ≤ 2 + (h : ℕ) ∧ 2 + (h : ℕ) < 66) ∧ (2 ≤ 1 + (w : ℕ) ∧ 1 + (w : ℕ) < 66)
  · first | rw [dif_pos (by omega), dif_pos g] | rw [dif_pos g]
    first | done | simp only [Nat.add_sub_cancel_left, Fin.eta]
  · first | rw [dif_neg (by omega), dif_neg g] | (exfalso; omega)

theorem D12_at (V : Valuation τ sig (Elt Ideal)) (b : Fin 8) (c : Fin 128) (h w : Fin 64) :
    (after opsD V (Proc.devRef .tc main_v117) (ix5 b c 0 h w) : EReal) = xq (aX V) b c (2 + (h : ℕ)) (2 + (w : ℕ)) := by
  after_reads_at
  unfold xq
  try rw [sitofp_zero]
  by_cases g : (2 ≤ 2 + (h : ℕ) ∧ 2 + (h : ℕ) < 66) ∧ (2 ≤ 2 + (w : ℕ) ∧ 2 + (w : ℕ) < 66)
  · first | rw [dif_pos (by omega), dif_pos g] | rw [dif_pos g]
    first | done | simp only [Nat.add_sub_cancel_left, Fin.eta]
  · first | rw [dif_neg (by omega), dif_neg g] | (exfalso; omega)

theorem D13_at (V : Valuation τ sig (Elt Ideal)) (b : Fin 8) (c : Fin 128) (h w : Fin 64) :
    (after opsD V (Proc.devRef .tc main_v118) (ix5 b c 0 h w) : EReal) = xq (aX V) b c (2 + (h : ℕ)) (3 + (w : ℕ)) := by
  after_reads_at
  unfold xq
  try rw [sitofp_zero]
  by_cases g : (2 ≤ 2 + (h : ℕ) ∧ 2 + (h : ℕ) < 66) ∧ (2 ≤ 3 + (w : ℕ) ∧ 3 + (w : ℕ) < 66)
  · first | rw [dif_pos (by omega), dif_pos g] | rw [dif_pos g]
    first | done | simp only [Nat.add_sub_cancel_left, Fin.eta]
  · first | rw [dif_neg (by omega), dif_neg g] | (exfalso; omega)

theorem D14_at (V : Valuation τ sig (Elt Ideal)) (b : Fin 8) (c : Fin 128) (h w : Fin 64) :
    (after opsD V (Proc.devRef .tc main_v119) (ix5 b c 0 h w) : EReal) = xq (aX V) b c (2 + (h : ℕ)) (4 + (w : ℕ)) := by
  after_reads_at
  unfold xq
  try rw [sitofp_zero]
  by_cases g : (2 ≤ 2 + (h : ℕ) ∧ 2 + (h : ℕ) < 66) ∧ (2 ≤ 4 + (w : ℕ) ∧ 4 + (w : ℕ) < 66)
  · first | rw [dif_pos (by omega), dif_pos g] | rw [dif_pos g]
    first | done | simp only [Nat.add_sub_cancel_left, Fin.eta]
  · first | rw [dif_neg (by omega), dif_neg g] | (exfalso; omega)

theorem D15_at (V : Valuation τ sig (Elt Ideal)) (b : Fin 8) (c : Fin 128) (h w : Fin 64) :
    (after opsD V (Proc.devRef .tc main_v120) (ix5 b c 0 h w) : EReal) = xq (aX V) b c (3 + (h : ℕ)) ((w : ℕ)) := by
  after_reads_at
  unfold xq
  try rw [sitofp_zero]
  by_cases g : (2 ≤ 3 + (h : ℕ) ∧ 3 + (h : ℕ) < 66) ∧ (2 ≤ (w : ℕ) ∧ (w : ℕ) < 66)
  · first | rw [dif_pos (by omega), dif_pos g] | rw [dif_pos g]
    first | done | simp only [Nat.add_sub_cancel_left, Fin.eta]
  · first | rw [dif_neg (by omega), dif_neg g] | (exfalso; omega)

theorem D16_at (V : Valuation τ sig (Elt Ideal)) (b : Fin 8) (c : Fin 128) (h w : Fin 64) :
    (after opsD V (Proc.devRef .tc main_v121) (ix5 b c 0 h w) : EReal) = xq (aX V) b c (3 + (h : ℕ)) (1 + (w : ℕ)) := by
  after_reads_at
  unfold xq
  try rw [sitofp_zero]
  by_cases g : (2 ≤ 3 + (h : ℕ) ∧ 3 + (h : ℕ) < 66) ∧ (2 ≤ 1 + (w : ℕ) ∧ 1 + (w : ℕ) < 66)
  · first | rw [dif_pos (by omega), dif_pos g] | rw [dif_pos g]
    first | done | simp only [Nat.add_sub_cancel_left, Fin.eta]
  · first | rw [dif_neg (by omega), dif_neg g] | (exfalso; omega)

theorem D17_at (V : Valuation τ sig (Elt Ideal)) (b : Fin 8) (c : Fin 128) (h w : Fin 64) :
    (after opsD V (Proc.devRef .tc main_v122) (ix5 b c 0 h w) : EReal) = xq (aX V) b c (3 + (h : ℕ)) (2 + (w : ℕ)) := by
  after_reads_at
  unfold xq
  try rw [sitofp_zero]
  by_cases g : (2 ≤ 3 + (h : ℕ) ∧ 3 + (h : ℕ) < 66) ∧ (2 ≤ 2 + (w : ℕ) ∧ 2 + (w : ℕ) < 66)
  · first | rw [dif_pos (by omega), dif_pos g] | rw [dif_pos g]
    first | done | simp only [Nat.add_sub_cancel_left, Fin.eta]
  · first | rw [dif_neg (by omega), dif_neg g] | (exfalso; omega)

theorem D18_at (V : Valuation τ sig (Elt Ideal)) (b : Fin 8) (c : Fin 128) (h w : Fin 64) :
    (after opsD V (Proc.devRef .tc main_v123) (ix5 b c 0 h w) : EReal) = xq (aX V) b c (3 + (h : ℕ)) (3 + (w : ℕ)) := by
  after_reads_at
  unfold xq
  try rw [sitofp_zero]
  by_cases g : (2 ≤ 3 + (h : ℕ) ∧ 3 + (h : ℕ) < 66) ∧ (2 ≤ 3 + (w : ℕ) ∧ 3 + (w : ℕ) < 66)
  · first | rw [dif_pos (by omega), dif_pos g] | rw [dif_pos g]
    first | done | simp only [Nat.add_sub_cancel_left, Fin.eta]
  · first | rw [dif_neg (by omega), dif_neg g] | (exfalso; omega)

theorem D19_at (V : Valuation τ sig (Elt Ideal)) (b : Fin 8) (c : Fin 128) (h w : Fin 64) :
    (after opsD V (Proc.devRef .tc main_v124) (ix5 b c 0 h w) : EReal) = xq (aX V) b c (3 + (h : ℕ)) (4 + (w : ℕ)) := by
  after_reads_at
  unfold xq
  try rw [sitofp_zero]
  by_cases g : (2 ≤ 3 + (h : ℕ) ∧ 3 + (h : ℕ) < 66) ∧ (2 ≤ 4 + (w : ℕ) ∧ 4 + (w : ℕ) < 66)
  · first | rw [dif_pos (by omega), dif_pos g] | rw [dif_pos g]
    first | done | simp only [Nat.add_sub_cancel_left, Fin.eta]
  · first | rw [dif_neg (by omega), dif_neg g] | (exfalso; omega)

theorem D20_at (V : Valuation τ sig (Elt Ideal)) (b : Fin 8) (c : Fin 128) (h w : Fin 64) :
    (after opsD V (Proc.devRef .tc main_v125) (ix5 b c 0 h w) : EReal) = xq (aX V) b c (4 + (h : ℕ)) ((w : ℕ)) := by
  after_reads_at
  unfold xq
  try rw [sitofp_zero]
  by_cases g : (2 ≤ 4 + (h : ℕ) ∧ 4 + (h : ℕ) < 66) ∧ (2 ≤ (w : ℕ) ∧ (w : ℕ) < 66)
  · first | rw [dif_pos (by omega), dif_pos g] | rw [dif_pos g]
    first | done | simp only [Nat.add_sub_cancel_left, Fin.eta]
  · first | rw [dif_neg (by omega), dif_neg g] | (exfalso; omega)

theorem D21_at (V : Valuation τ sig (Elt Ideal)) (b : Fin 8) (c : Fin 128) (h w : Fin 64) :
    (after opsD V (Proc.devRef .tc main_v126) (ix5 b c 0 h w) : EReal) = xq (aX V) b c (4 + (h : ℕ)) (1 + (w : ℕ)) := by
  after_reads_at
  unfold xq
  try rw [sitofp_zero]
  by_cases g : (2 ≤ 4 + (h : ℕ) ∧ 4 + (h : ℕ) < 66) ∧ (2 ≤ 1 + (w : ℕ) ∧ 1 + (w : ℕ) < 66)
  · first | rw [dif_pos (by omega), dif_pos g] | rw [dif_pos g]
    first | done | simp only [Nat.add_sub_cancel_left, Fin.eta]
  · first | rw [dif_neg (by omega), dif_neg g] | (exfalso; omega)

theorem D22_at (V : Valuation τ sig (Elt Ideal)) (b : Fin 8) (c : Fin 128) (h w : Fin 64) :
    (after opsD V (Proc.devRef .tc main_v127) (ix5 b c 0 h w) : EReal) = xq (aX V) b c (4 + (h : ℕ)) (2 + (w : ℕ)) := by
  after_reads_at
  unfold xq
  try rw [sitofp_zero]
  by_cases g : (2 ≤ 4 + (h : ℕ) ∧ 4 + (h : ℕ) < 66) ∧ (2 ≤ 2 + (w : ℕ) ∧ 2 + (w : ℕ) < 66)
  · first | rw [dif_pos (by omega), dif_pos g] | rw [dif_pos g]
    first | done | simp only [Nat.add_sub_cancel_left, Fin.eta]
  · first | rw [dif_neg (by omega), dif_neg g] | (exfalso; omega)

theorem D23_at (V : Valuation τ sig (Elt Ideal)) (b : Fin 8) (c : Fin 128) (h w : Fin 64) :
    (after opsD V (Proc.devRef .tc main_v128) (ix5 b c 0 h w) : EReal) = xq (aX V) b c (4 + (h : ℕ)) (3 + (w : ℕ)) := by
  after_reads_at
  unfold xq
  try rw [sitofp_zero]
  by_cases g : (2 ≤ 4 + (h : ℕ) ∧ 4 + (h : ℕ) < 66) ∧ (2 ≤ 3 + (w : ℕ) ∧ 3 + (w : ℕ) < 66)
  · first | rw [dif_pos (by omega), dif_pos g] | rw [dif_pos g]
    first | done | simp only [Nat.add_sub_cancel_left, Fin.eta]
  · first | rw [dif_neg (by omega), dif_neg g] | (exfalso; omega)

theorem D24_at (V : Valuation τ sig (Elt Ideal)) (b : Fin 8) (c : Fin 128) (h w : Fin 64) :
    (after opsD V (Proc.devRef .tc main_v129) (ix5 b c 0 h w) : EReal) = xq (aX V) b c (4 + (h : ℕ)) (4 + (w : ℕ)) := by
  after_reads_at
  unfold xq
  try rw [sitofp_zero]
  by_cases g : (2 ≤ 4 + (h : ℕ) ∧ 4 + (h : ℕ) < 66) ∧ (2 ≤ 4 + (w : ℕ) ∧ 4 + (w : ℕ) < 66)
  · first | rw [dif_pos (by omega), dif_pos g] | rw [dif_pos g]
    first | done | simp only [Nat.add_sub_cancel_left, Fin.eta]
  · first | rw [dif_neg (by omega), dif_neg g] | (exfalso; omega)

/-- The shifted views, by tap. -/
def views (V : Valuation τ sig (Elt Ideal)) : Fin 25 → FVec Ideal S8x128x1x64x64 .f32 :=
  ![after opsD V (Proc.devRef .tc main_v105), after opsD V (Proc.devRef .tc main_v106),
    after opsD V (Proc.devRef .tc main_v107), after opsD V (Proc.devRef .tc main_v108),
    after opsD V (Proc.devRef .tc main_v109), after opsD V (Proc.devRef .tc main_v110),
    after opsD V (Proc.devRef .tc main_v111), after opsD V (Proc.devRef .tc main_v112),
    after opsD V (Proc.devRef .tc main_v113), after opsD V (Proc.devRef .tc main_v114),
    after opsD V (Proc.devRef .tc main_v115), after opsD V (Proc.devRef .tc main_v116),
    after opsD V (Proc.devRef .tc main_v117), after opsD V (Proc.devRef .tc main_v118),
    after opsD V (Proc.devRef .tc main_v119), after opsD V (Proc.devRef .tc main_v120),
    after opsD V (Proc.devRef .tc main_v121), after opsD V (Proc.devRef .tc main_v122),
    after opsD V (Proc.devRef .tc main_v123), after opsD V (Proc.devRef .tc main_v124),
    after opsD V (Proc.devRef .tc main_v125), after opsD V (Proc.devRef .tc main_v126),
    after opsD V (Proc.devRef .tc main_v127), after opsD V (Proc.devRef .tc main_v128),
    after opsD V (Proc.devRef .tc main_v129)]

theorem views_at (V : Valuation τ sig (Elt Ideal)) (b : Fin 8) (c : Fin 128) (h w : Fin 64) (t : Fin 25) :
    (views V t (ix5 b c 0 h w) : EReal) = xq (aX V) b c (h + t / 5) (w + t % 5) := by
  rw [Nat.add_comm (h : ℕ), Nat.add_comm (w : ℕ)]
  fin_cases t
  · exact (D0_at V b c h w).trans (by congr 1 <;> simp)
  · exact (D1_at V b c h w).trans (by congr 1 <;> simp)
  · exact (D2_at V b c h w).trans (by congr 1 <;> simp)
  · exact (D3_at V b c h w).trans (by congr 1 <;> simp)
  · exact (D4_at V b c h w).trans (by congr 1 <;> simp)
  · exact (D5_at V b c h w).trans (by congr 1 <;> simp)
  · exact (D6_at V b c h w).trans (by congr 1 <;> simp)
  · exact (D7_at V b c h w).trans (by congr 1 <;> simp)
  · exact (D8_at V b c h w).trans (by congr 1 <;> simp)
  · exact (D9_at V b c h w).trans (by congr 1 <;> simp)
  · exact (D10_at V b c h w).trans (by congr 1 <;> simp)
  · exact (D11_at V b c h w).trans (by congr 1 <;> simp)
  · exact (D12_at V b c h w).trans (by congr 1 <;> simp)
  · exact (D13_at V b c h w).trans (by congr 1 <;> simp)
  · exact (D14_at V b c h w).trans (by congr 1 <;> simp)
  · exact (D15_at V b c h w).trans (by congr 1 <;> simp)
  · exact (D16_at V b c h w).trans (by congr 1 <;> simp)
  · exact (D17_at V b c h w).trans (by congr 1 <;> simp)
  · exact (D18_at V b c h w).trans (by congr 1 <;> simp)
  · exact (D19_at V b c h w).trans (by congr 1 <;> simp)
  · exact (D20_at V b c h w).trans (by congr 1 <;> simp)
  · exact (D21_at V b c h w).trans (by congr 1 <;> simp)
  · exact (D22_at V b c h w).trans (by congr 1 <;> simp)
  · exact (D23_at V b c h w).trans (by congr 1 <;> simp)
  · exact (D24_at V b c h w).trans (by congr 1 <;> simp)

end Cert.Ref
-- ==== Proof.RefEnd.lean ====
module

public import proofs.«01_k».proof.Proof.RefSum

/-! The reference's result, at an index. -/

@[expose] public section

set_option maxRecDepth 16384

noncomputable section

namespace Cert.Ref

open Cert.ReferenceIdeal Cert.ReferenceIdeal.Gen Idealize.ShloMosaic Idealize.ShloMosaic.TcCoe Idealize.ShloMosaic.StableHlo Cert.Carafe

/-- The last stretch multiplies the stacked views by the weights and sums over the taps. -/
theorem E_raw (W : Valuation τ sig (Elt Ideal)) (b : Fin 8) (c : Fin 128) (oh ow : Fin 128) :
    (after opsE W (Proc.devRef .tc main_v140) (ix4 b c oh ow) : EReal) = ∑ t : Fin 25,
      (fn_main_v132 (F := Ideal) (fn_main_v130 (F := Ideal) (W (Proc.devRef .tc main_v105)) (W (Proc.devRef .tc main_v106)) (W (Proc.devRef .tc main_v107)) (W (Proc.devRef .tc main_v108)) (W (Proc.devRef .tc main_v109)) (W (Proc.devRef .tc main_v110)) (W (Proc.devRef .tc main_v111)) (W (Proc.devRef .tc main_v112)) (W (Proc.devRef .tc main_v113)) (W (Proc.devRef .tc main_v114)) (W (Proc.devRef .tc main_v115)) (W (Proc.devRef .tc main_v116)) (W (Proc.devRef .tc main_v117)) (W (Proc.devRef .tc main_v118)) (W (Proc.devRef .tc main_v119)) (W (Proc.devRef .tc main_v120)))
        (fn_main_v131 (F := Ideal) (W (Proc.devRef .tc main_v121)) (W (Proc.devRef .tc main_v122)) (W (Proc.devRef .tc main_v123)) (W (Proc.devRef .tc main_v124)) (W (Proc.devRef .tc main_v125)) (W (Proc.devRef .tc main_v126)) (W (Proc.devRef .tc main_v127)) (W (Proc.devRef .tc main_v128)) (W (Proc.devRef .tc main_v129))) (ix5 b c t ⟨oh / 2, by omega⟩ ⟨ow / 2, by omega⟩) : EReal)
      * (W (Proc.devRef .tc main_v78) (ix4 b t oh ow) : EReal) := by
  after_reads_at

theorem E_at (W : Valuation τ sig (Elt Ideal)) (u : Fin 25 → FVec Ideal S8x128x1x64x64 .f32)
    (h0 : W (Proc.devRef .tc main_v105) = u 0)
    (h1 : W (Proc.devRef .tc main_v106) = u 1)
    (h2 : W (Proc.devRef .tc main_v107) = u 2)
    (h3 : W (Proc.devRef .tc main_v108) = u 3)
    (h4 : W (Proc.devRef .tc main_v109) = u 4)
    (h5 : W (Proc.devRef .tc main_v110) = u 5)
    (h6 : W (Proc.devRef .tc main_v111) = u 6)
    (h7 : W (Proc.devRef .tc main_v112) = u 7)
    (h8 : W (Proc.devRef .tc main_v113) = u 8)
    (h9 : W (Proc.devRef .tc main_v114) = u 9)
    (h10 : W (Proc.devRef .tc main_v115) = u 10)
    (h11 : W (Proc.devRef .tc main_v116) = u 11)
    (h12 : W (Proc.devRef .tc main_v117) = u 12)
    (h13 : W (Proc.devRef .tc main_v118) = u 13)
    (h14 : W (Proc.devRef .tc main_v119) = u 14)
    (h15 : W (Proc.devRef .tc main_v120) = u 15)
    (h16 : W (Proc.devRef .tc main_v121) = u 16)
    (h17 : W (Proc.devRef .tc main_v122) = u 17)
    (h18 : W (Proc.devRef .tc main_v123) = u 18)
    (h19 : W (Proc.devRef .tc main_v124) = u 19)
    (h20 : W (Proc.devRef .tc main_v125) = u 20)
    (h21 : W (Proc.devRef .tc main_v126) = u 21)
    (h22 : W (Proc.devRef .tc main_v127) = u 22)
    (h23 : W (Proc.devRef .tc main_v128) = u 23)
    (h24 : W (Proc.devRef .tc main_v129) = u 24)
    (b : Fin 8) (c : Fin 128) (oh ow : Fin 128) :
    (after opsE W (Proc.devRef .tc main_v140) (ix4 b c oh ow) : EReal) = ∑ t : Fin 25,
      (u t (ix5 b c 0 ⟨oh / 2, by omega⟩ ⟨ow / 2, by omega⟩) : EReal) * (W (Proc.devRef .tc main_v78) (ix4 b t oh ow) : EReal) := by
  refine Eq.trans (α := EReal) (E_raw W b c oh ow) ?_
  rw [h0, h1, h2, h3, h4, h5, h6, h7, h8, h9, h10, h11, h12, h13, h14, h15, h16, h17, h18, h19, h20, h21, h22, h23, h24]
  exact Finset.sum_congr (M := EReal) rfl fun t _ => congrArg (fun x : EReal => x * (W (Proc.devRef .tc main_v78) (ix4 b t oh ow) : EReal)) (stack_at u b c t _ _)

/-- What the last two stretches leave: the sum over the taps of shifted input pixel times weight. -/
theorem DE_at (V : Valuation τ sig (Elt Ideal)) (b : Fin 8) (c : Fin 128) (oh ow : Fin 128) :
    (after opsE (after opsD V) (Proc.devRef .tc main_v140) (ix4 b c oh ow) : EReal) = ∑ t : Fin 25,
      xq (aX V) b c (oh / 2 + t / 5) (ow / 2 + t % 5) * (V (Proc.devRef .tc main_v78) (ix4 b t oh ow) : EReal) := by
  refine Eq.trans (α := EReal) (E_at (after opsD V) (views V) rfl rfl rfl rfl rfl rfl rfl rfl rfl rfl rfl rfl rfl rfl rfl rfl rfl rfl rfl rfl rfl rfl rfl rfl rfl b c oh ow) ?_
  refine Finset.sum_congr (M := EReal) rfl fun t _ => ?_
  have h : after opsD V (Proc.devRef .tc main_v78) = V (Proc.devRef .tc main_v78) := by after_reads_simp
  rw [views_at, h]

theorem keepA_arg0 (V : Valuation τ sig (Elt Ideal)) : after opsA V (Proc.devRef .tc main_arg0) = V (Proc.devRef .tc main_arg0) := by
  after_reads_simp

theorem keepB_arg0 (V : Valuation τ sig (Elt Ideal)) : after opsB V (Proc.devRef .tc main_arg0) = V (Proc.devRef .tc main_arg0) := by
  after_reads_simp

theorem keepC_arg0 (V : Valuation τ sig (Elt Ideal)) : after opsC V (Proc.devRef .tc main_arg0) = V (Proc.devRef .tc main_arg0) := by
  after_reads_simp

theorem keepM_arg0 (V : Valuation τ sig (Elt Ideal)) : after opsM V (Proc.devRef .tc main_arg0) = V (Proc.devRef .tc main_arg0) := by
  after_reads_simp

theorem keepX_arg0 (V : Valuation τ sig (Elt Ideal)) : after opsX V (Proc.devRef .tc main_arg0) = V (Proc.devRef .tc main_arg0) := by
  after_reads_simp

theorem keepS_arg0 (V : Valuation τ sig (Elt Ideal)) : after opsS V (Proc.devRef .tc main_arg0) = V (Proc.devRef .tc main_arg0) := by
  after_reads_simp

theorem keepD_arg0 (V : Valuation τ sig (Elt Ideal)) : after opsD V (Proc.devRef .tc main_arg0) = V (Proc.devRef .tc main_arg0) := by
  after_reads_simp

theorem keepE_arg0 (V : Valuation τ sig (Elt Ideal)) : after opsE V (Proc.devRef .tc main_arg0) = V (Proc.devRef .tc main_arg0) := by
  after_reads_simp

theorem keepA_arg1 (V : Valuation τ sig (Elt Ideal)) : after opsA V (Proc.devRef .tc main_arg1) = V (Proc.devRef .tc main_arg1) := by
  after_reads_simp

theorem keepB_arg1 (V : Valuation τ sig (Elt Ideal)) : after opsB V (Proc.devRef .tc main_arg1) = V (Proc.devRef .tc main_arg1) := by
  after_reads_simp

theorem keepC_arg1 (V : Valuation τ sig (Elt Ideal)) : after opsC V (Proc.devRef .tc main_arg1) = V (Proc.devRef .tc main_arg1) := by
  after_reads_simp

theorem keepM_arg1 (V : Valuation τ sig (Elt Ideal)) : after opsM V (Proc.devRef .tc main_arg1) = V (Proc.devRef .tc main_arg1) := by
  after_reads_simp

theorem keepX_arg1 (V : Valuation τ sig (Elt Ideal)) : after opsX V (Proc.devRef .tc main_arg1) = V (Proc.devRef .tc main_arg1) := by
  after_reads_simp

theorem keepS_arg1 (V : Valuation τ sig (Elt Ideal)) : after opsS V (Proc.devRef .tc main_arg1) = V (Proc.devRef .tc main_arg1) := by
  after_reads_simp

theorem keepD_arg1 (V : Valuation τ sig (Elt Ideal)) : after opsD V (Proc.devRef .tc main_arg1) = V (Proc.devRef .tc main_arg1) := by
  after_reads_simp

theorem keepE_arg1 (V : Valuation τ sig (Elt Ideal)) : after opsE V (Proc.devRef .tc main_arg1) = V (Proc.devRef .tc main_arg1) := by
  after_reads_simp

theorem keepA_arg2 (V : Valuation τ sig (Elt Ideal)) : after opsA V (Proc.devRef .tc main_arg2) = V (Proc.devRef .tc main_arg2) := by
  after_reads_simp

theorem keepB_arg2 (V : Valuation τ sig (Elt Ideal)) : after opsB V (Proc.devRef .tc main_arg2) = V (Proc.devRef .tc main_arg2) := by
  after_reads_simp

theorem keepC_arg2 (V : Valuation τ sig (Elt Ideal)) : after opsC V (Proc.devRef .tc main_arg2) = V (Proc.devRef .tc main_arg2) := by
  after_reads_simp

theorem keepM_arg2 (V : Valuation τ sig (Elt Ideal)) : after opsM V (Proc.devRef .tc main_arg2) = V (Proc.devRef .tc main_arg2) := by
  after_reads_simp

theorem keepX_arg2 (V : Valuation τ sig (Elt Ideal)) : after opsX V (Proc.devRef .tc main_arg2) = V (Proc.devRef .tc main_arg2) := by
  after_reads_simp

theorem keepS_arg2 (V : Valuation τ sig (Elt Ideal)) : after opsS V (Proc.devRef .tc main_arg2) = V (Proc.devRef .tc main_arg2) := by
  after_reads_simp

theorem keepD_arg2 (V : Valuation τ sig (Elt Ideal)) : after opsD V (Proc.devRef .tc main_arg2) = V (Proc.devRef .tc main_arg2) := by
  after_reads_simp

theorem keepE_arg2 (V : Valuation τ sig (Elt Ideal)) : after opsE V (Proc.devRef .tc main_arg2) = V (Proc.devRef .tc main_arg2) := by
  after_reads_simp

theorem keepA_arg3 (V : Valuation τ sig (Elt Ideal)) : after opsA V (Proc.devRef .tc main_arg3) = V (Proc.devRef .tc main_arg3) := by
  after_reads_simp

theorem keepB_arg3 (V : Valuation τ sig (Elt Ideal)) : after opsB V (Proc.devRef .tc main_arg3) = V (Proc.devRef .tc main_arg3) := by
  after_reads_simp

theorem keepC_arg3 (V : Valuation τ sig (Elt Ideal)) : after opsC V (Proc.devRef .tc main_arg3) = V (Proc.devRef .tc main_arg3) := by
  after_reads_simp

theorem keepM_arg3 (V : Valuation τ sig (Elt Ideal)) : after opsM V (Proc.devRef .tc main_arg3) = V (Proc.devRef .tc main_arg3) := by
  after_reads_simp

theorem keepX_arg3 (V : Valuation τ sig (Elt Ideal)) : after opsX V (Proc.devRef .tc main_arg3) = V (Proc.devRef .tc main_arg3) := by
  after_reads_simp

theorem keepS_arg3 (V : Valuation τ sig (Elt Ideal)) : after opsS V (Proc.devRef .tc main_arg3) = V (Proc.devRef .tc main_arg3) := by
  after_reads_simp

theorem keepD_arg3 (V : Valuation τ sig (Elt Ideal)) : after opsD V (Proc.devRef .tc main_arg3) = V (Proc.devRef .tc main_arg3) := by
  after_reads_simp

theorem keepE_arg3 (V : Valuation τ sig (Elt Ideal)) : after opsE V (Proc.devRef .tc main_arg3) = V (Proc.devRef .tc main_arg3) := by
  after_reads_simp

theorem keepA_arg4 (V : Valuation τ sig (Elt Ideal)) : after opsA V (Proc.devRef .tc main_arg4) = V (Proc.devRef .tc main_arg4) := by
  after_reads_simp

theorem keepB_arg4 (V : Valuation τ sig (Elt Ideal)) : after opsB V (Proc.devRef .tc main_arg4) = V (Proc.devRef .tc main_arg4) := by
  after_reads_simp

theorem keepC_arg4 (V : Valuation τ sig (Elt Ideal)) : after opsC V (Proc.devRef .tc main_arg4) = V (Proc.devRef .tc main_arg4) := by
  after_reads_simp

theorem keepM_arg4 (V : Valuation τ sig (Elt Ideal)) : after opsM V (Proc.devRef .tc main_arg4) = V (Proc.devRef .tc main_arg4) := by
  after_reads_simp

theorem keepX_arg4 (V : Valuation τ sig (Elt Ideal)) : after opsX V (Proc.devRef .tc main_arg4) = V (Proc.devRef .tc main_arg4) := by
  after_reads_simp

theorem keepS_arg4 (V : Valuation τ sig (Elt Ideal)) : after opsS V (Proc.devRef .tc main_arg4) = V (Proc.devRef .tc main_arg4) := by
  after_reads_simp

theorem keepD_arg4 (V : Valuation τ sig (Elt Ideal)) : after opsD V (Proc.devRef .tc main_arg4) = V (Proc.devRef .tc main_arg4) := by
  after_reads_simp

theorem keepE_arg4 (V : Valuation τ sig (Elt Ideal)) : after opsE V (Proc.devRef .tc main_arg4) = V (Proc.devRef .tc main_arg4) := by
  after_reads_simp

theorem fin_arg0 (m : (ℓ : Loc nD τ sig) → Buf (Elt Ideal) ℓ) (c : Dev nD) :
    fin m c (Proc.devRef .tc main_arg0) = m ((c.tc : Thread nD τ).loc main_arg0) := by
  unfold fin
  rw [keepE_arg0]; rw [keepD_arg0]; rw [keepS_arg0]; rw [keepX_arg0]; rw [keepM_arg0]; rw [keepC_arg0]; rw [keepB_arg0]; rw [keepA_arg0]

theorem fin_arg1 (m : (ℓ : Loc nD τ sig) → Buf (Elt Ideal) ℓ) (c : Dev nD) :
    fin m c (Proc.devRef .tc main_arg1) = m ((c.tc : Thread nD τ).loc main_arg1) := by
  unfold fin
  rw [keepE_arg1]; rw [keepD_arg1]; rw [keepS_arg1]; rw [keepX_arg1]; rw [keepM_arg1]; rw [keepC_arg1]; rw [keepB_arg1]; rw [keepA_arg1]

theorem fin_arg2 (m : (ℓ : Loc nD τ sig) → Buf (Elt Ideal) ℓ) (c : Dev nD) :
    fin m c (Proc.devRef .tc main_arg2) = m ((c.tc : Thread nD τ).loc main_arg2) := by
  unfold fin
  rw [keepE_arg2]; rw [keepD_arg2]; rw [keepS_arg2]; rw [keepX_arg2]; rw [keepM_arg2]; rw [keepC_arg2]; rw [keepB_arg2]; rw [keepA_arg2]

theorem fin_arg3 (m : (ℓ : Loc nD τ sig) → Buf (Elt Ideal) ℓ) (c : Dev nD) :
    fin m c (Proc.devRef .tc main_arg3) = m ((c.tc : Thread nD τ).loc main_arg3) := by
  unfold fin
  rw [keepE_arg3]; rw [keepD_arg3]; rw [keepS_arg3]; rw [keepX_arg3]; rw [keepM_arg3]; rw [keepC_arg3]; rw [keepB_arg3]; rw [keepA_arg3]

theorem fin_arg4 (m : (ℓ : Loc nD τ sig) → Buf (Elt Ideal) ℓ) (c : Dev nD) :
    fin m c (Proc.devRef .tc main_arg4) = m ((c.tc : Thread nD τ).loc main_arg4) := by
  unfold fin
  rw [keepE_arg4]; rw [keepD_arg4]; rw [keepS_arg4]; rw [keepX_arg4]; rw [keepM_arg4]; rw [keepC_arg4]; rw [keepB_arg4]; rw [keepA_arg4]

/-- The result both programs compute, at an index, from the five arguments. -/
def res (X : Fin 8 → Fin 128 → Fin 64 → Fin 64 → EReal) (L : Fin 8 → Fin 100 → ℕ → ℕ → EReal) (b : Fin 8) (c oh ow : Fin 128) : EReal :=
  ∑ t : Fin 25, xq X b c (oh / 2 + t / 5) (ow / 2 + t % 5) * soft (fun s => L b (lane oh ow s) (oh / 2) (ow / 2)) t

/-- The logits, from the arguments. -/
def lg (V : Valuation τ sig (Elt Ideal)) (b : Fin 8) (o : Fin 100) (h w : ℕ) : EReal :=
  logit (comp (aX V) (aW V) (aB V) b) (aE V) (aD V) o h w

/-- The logits the reference forms. -/
theorem BA_at (V : Valuation τ sig (Elt Ideal)) (b : Fin 8) (o : Fin 100) (h w : Fin 64) :
    (after opsB (after opsA V) (Proc.devRef .tc main_v64) (ix4 b o h w) : EReal) = lg V b o h w := by
  refine (B_at (after opsA V) (comp (aX V) (aW V) (aB V) b) b o h w fun m r c => A_at V b m r c).trans ?_
  have hE : aE (after opsA V) = aE V := by unfold aE; rw [keepA_arg3]
  have hD : aD (after opsA V) = aD V := by unfold aD; rw [keepA_arg4]
  rw [hE, hD]
  rfl

/-- The reference's result, at an index, when no logit is above a real bound. -/
theorem fin_at (m : (ℓ : Loc nD τ sig) → Buf (Elt Ideal) ℓ) (d : Dev nD) (K : ℝ)
    (hK : ∀ (b : Fin 8) (o : Fin 100) (h w : Fin 64), lg (launchContents m d) b o h w ≤ (K : EReal)) (b : Fin 8) (c oh ow : Fin 128) :
    (fin m d (Proc.devRef .tc main_v140) (ix4 b c oh ow) : EReal) = res (aX (launchContents m d)) (lg (launchContents m d)) b c oh ow := by
  unfold fin
  refine Eq.trans (α := EReal) (DE_at _ b c oh ow) ?_
  have hX : ∀ V : Valuation τ sig (Elt Ideal), aX (after opsS (after opsX (after opsM (after opsC (after opsB (after opsA V)))))) = aX V := fun V => by
    unfold aX
    rw [keepS_arg0, keepX_arg0, keepM_arg0, keepC_arg0, keepB_arg0, keepA_arg0]
  rw [hX]
  unfold res
  refine Finset.sum_congr (M := EReal) rfl fun t _ => ?_
  refine congrArg (fun x : EReal => xq (aX (launchContents m d)) b c (oh / 2 + t / 5) (ow / 2 + t % 5) * x) ?_
  generalize launchContents m d = V at *
  have hl : ∀ s : Fin 25, (after opsC (after opsB (after opsA V)) (Proc.devRef .tc main_v67) (ix4 b s oh ow) : EReal)
      = lg V b (lane oh ow s) (oh / 2) (ow / 2) := fun s =>
    (C_at _ b s oh ow).trans (BA_at V b (lane oh ow s) ⟨oh / 2, by omega⟩ ⟨ow / 2, by omega⟩)
  rw [← softMax_eq _ K (fun s => hK b (lane oh ow s) ⟨oh / 2, by omega⟩ ⟨ow / 2, by omega⟩) t]
  refine S_at _ _ b t oh ow fun s => ?_
  refine X_at _ _ _ b s oh ow ?_ (M_at _ _ b oh ow hl)
  refine Eq.trans ?_ (hl s)
  have h : ∀ U : Valuation τ sig (Elt Ideal), after opsM U (Proc.devRef .tc main_v67) = U (Proc.devRef .tc main_v67) := fun U => by after_reads_simp
  rw [h]

end Cert.Ref
-- ==== Proof.PreVal.lean ====
module

public import proofs.«01_k».proof.Proof.RefEnd
public import proofs.«01_k».proof.Proof.Gen.Pre_logits_at_most_60

/-! The precondition, read: every logit the reference forms is at most 60. -/

@[expose] public section

set_option maxRecDepth 16384

noncomputable section

namespace Cert.Ref

open Cert.ReferenceIdeal Cert.ReferenceIdeal.Gen Idealize.ShloMosaic Idealize.ShloMosaic.TcCoe Idealize.ShloMosaic.StableHlo Cert.Carafe

set_option maxHeartbeats 4000000 in
/-- The precondition compares the logits the reference forms with 60. -/
theorem pre_eq (V : Valuation τ sig (Elt Ideal)) :
    (Cert.Pre_logits_at_most_60.fn (F := Ideal) (V (Proc.devRef .tc main_arg0)) (V (Proc.devRef .tc main_arg1)) (V (Proc.devRef .tc main_arg2)) (V (Proc.devRef .tc main_arg3)) (V (Proc.devRef .tc main_arg4)))
      = cmpf .ole (after opsB (after opsA V) (Proc.devRef .tc main_v64) : FVec Ideal S8x100x64x64 .f32)
        (broadcastInDim S8x100x64x64 ![] bcast_S_S8x100x64x64 (constant S_ .f32 0x42700000#32 : FVec Ideal S_ .f32)) := by
  after_reads_simp
  rfl

theorem sixty : (Ideal.ofBits .f32 0x42700000#32 : EReal) = ((60 : ℝ) : EReal) := by
  simp [Ideal.ofBits, Ideal.ieee]
  rw [← EReal.coe_mul]
  norm_num

/-- Under the precondition no logit is above 60. -/
theorem pre_le (V : Valuation τ sig (Elt Ideal))
    (h : ∀ i, Cert.Pre_logits_at_most_60.fn (F := Ideal) (V (Proc.devRef .tc main_arg0)) (V (Proc.devRef .tc main_arg1)) (V (Proc.devRef .tc main_arg2)) (V (Proc.devRef .tc main_arg3)) (V (Proc.devRef .tc main_arg4)) i = 1#1)
    (b : Fin 8) (o : Fin 100) (hh w : Fin 64) : lg V b o hh w ≤ ((60 : ℝ) : EReal) := by
  have h1 := h (ix4 b o hh w)
  rw [pre_eq] at h1
  rw [← BA_at V b o hh w, ← sixty]
  generalize (after opsB (after opsA V) (Proc.devRef .tc main_v64) : FVec Ideal S8x100x64x64 .f32) = x at *
  by_contra hn
  have h2 : BitVec.ofBool (decide ((show EReal from x (ix4 b o hh w)) ≤ (Ideal.ofBits .f32 0x42700000#32 : EReal))) = 1#1 := by
    refine Eq.trans ?_ h1
    pointwise
  rw [decide_eq_false hn] at h2
  exact absurd h2 (by decide)

end Cert.Ref
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_logits_at_most_60
public import proofs.«01_k».proof.Proof.KRun
public import proofs.«01_k».proof.Proof.KEnd
public import proofs.«01_k».proof.Proof.RefEnd
public import proofs.«01_k».proof.Proof.PreVal
public import Idealize.ShloMosaic.Adequacy
public import Idealize.ShloMosaic.Init

@[expose] public section

noncomputable section

namespace Cert.Proof

open Idealize.ShloMosaic Idealize.ShloMosaic.TcCoe Idealize.SL.Sem Cert.Kernel

/-- The reference terminates with its arguments and its counters as launched. -/
theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run _ _ _).mono (fun r h => ⟨fun c =>
    ⟨(h c Cert.ReferenceIdeal.main_arg0).trans (Cert.Ref.fin_arg0 m c), (h c Cert.ReferenceIdeal.main_arg1).trans (Cert.Ref.fin_arg1 m c),
      (h c Cert.ReferenceIdeal.main_arg2).trans (Cert.Ref.fin_arg2 m c), (h c Cert.ReferenceIdeal.main_arg3).trans (Cert.Ref.fin_arg3 m c),
      (h c Cert.ReferenceIdeal.main_arg4).trans (Cert.Ref.fin_arg4 m c)⟩,
    Idealize.ShloMosaic.sem_eq_zero_of_no_sems (by decide) r.2⟩) (Cert.Ref.run m g)

/-- Under the precondition the reference's result is the kernel's. -/
theorem result_eq (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hp : (Cert.Pre_logits_at_most_60.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1))
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.Ref.fin m' c (Proc.devRef .tc Cert.ReferenceIdeal.main_v140) : FVec Ideal Cert.KernelIdeal.S8x128x128x128 .f32)
      = Cert.KernelIdeal.Gen.W14 m g c (Proc.devRef .tc Cert.KernelIdeal.main_v26) := by
  have hle := Cert.Ref.pre_le (StableHlo.launchContents m' c) fun i => by
    show Cert.Pre_logits_at_most_60.fn (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) i = 1#1
    rw [h0, h1, h2, h3, h4]
    exact congrFun hp i
  have eX : Cert.Ref.aX (StableHlo.launchContents m' c) = Cert.KEnd.kX m c := funext fun b => funext fun k => funext fun r => funext fun w => congrFun h0 (ix4 b k r w)
  have eW : Cert.Ref.aW (StableHlo.launchContents m' c) = Cert.KEnd.kW m c := funext fun j => funext fun k => congrFun h1 (ix4 j k 0 0)
  have eB : Cert.Ref.aB (StableHlo.launchContents m' c) = Cert.KEnd.kB m c := funext fun j => congrFun h2 (ix1 j)
  have eE : Cert.Ref.aE (StableHlo.launchContents m' c) = Cert.KEnd.kE m c := funext fun o => funext fun j => funext fun a => funext fun b => congrFun h3 (ix4 o j a b)
  have eD : Cert.Ref.aD (StableHlo.launchContents m' c) = Cert.KEnd.kD m c := funext fun o => congrFun h4 (ix1 o)
  have eL : Cert.Ref.lg (StableHlo.launchContents m' c) = Cert.KEnd.lgk m c := by
    funext b o h w
    unfold Cert.Ref.lg
    rw [eX, eW, eB, eE, eD]
  have hK : ∀ (b : Fin 8) (o : Fin 100) (h w : Fin 64), Cert.KEnd.lgk m c b o h w ≤ (Ideal.ofBits .f32 0x42700000#32 : EReal) := fun b o h w => by
    rw [Cert.Ref.sixty, ← eL]
    exact hle b o h w
  funext i
  rw [eq_ix4 i]
  refine (Cert.Ref.fin_at m' c 60 hle (i 0) (i 1) (i 2) (i 3)).trans ?_
  rw [eX, eL]
  exact (Cert.KEnd.result_at m g c hK (i 0) (i 1) (i 2) (i 3)).symm

theorem claim : Cert.Claim := ⟨Cert.Kernel.Gen.facts, Cert.KernelIdeal.Gen.facts, Cert.ReferenceIdeal.Gen.facts, Cert.Pre_logits_at_most_60.Gen.facts,
  fun m g _ => Cert.Kernel.Gen.frame m g, fun m g _ => Cert.KernelIdeal.Gen.frame m g, fun m g _ => Cert.KernelIdeal.Gen.frame m g,
  fun m g _ => frame_reference m g, fun m g _ => frame_reference m g, trivial,
  fun m g m' g' hpre hargs => ⟨fun c => Cert.KernelIdeal.Gen.W14 m g c (Proc.devRef .tc Cert.KernelIdeal.main_v26),
    (θ_run _ _ _).mono (fun r h => h.1) (Cert.KRun.run m g),
    (θ_run _ _ _).mono (fun r h c =>
      ⟨(h c Cert.ReferenceIdeal.main_v140).trans
          (result_eq m g m' c (hpre c) (hargs c).1 (hargs c).2.1 (hargs c).2.2.1 (hargs c).2.2.2.1 (hargs c).2.2.2.2),
        (h c Cert.ReferenceIdeal.main_arg0).trans (Cert.Ref.fin_arg0 m' c), (h c Cert.ReferenceIdeal.main_arg1).trans (Cert.Ref.fin_arg1 m' c),
        (h c Cert.ReferenceIdeal.main_arg2).trans (Cert.Ref.fin_arg2 m' c), (h c Cert.ReferenceIdeal.main_arg3).trans (Cert.Ref.fin_arg3 m' c),
        (h c Cert.ReferenceIdeal.main_arg4).trans (Cert.Ref.fin_arg4 m' c)⟩) (Cert.Ref.run m' g')⟩⟩

end Cert.Proof

end
